-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200x1 : Shape := ⟨3, ![4096, 200, 1]⟩
abbrev S4096x200 : Shape := ⟨2, ![4096, 200]⟩
abbrev S1x64 : Shape := ⟨2, ![1, 64]⟩
abbrev S64 : Shape := ⟨1, ![64]⟩
abbrev S21x64 : Shape := ⟨2, ![21, 64]⟩
abbrev S4x64 : Shape := ⟨2, ![4, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096x200x1 : S_.BroadcastsInDim S4096x200x1 (![] : Fin 0 → Fin S4096x200x1.rank)
  reducesTo_S4096x200x1_S_d0_1_2 : S4096x200x1.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v12 : IVec S_ 1) (main_v15 : IVec S4096x200x1 1) (main_c_5 : IVec S_ 1) : IVec S_ 1 :=
  let main_v16 : IVec S_ 1 := (fun x v => Host.reduce IntOp.andi x v reducesTo_S4096x200x1_S_d0_1_2 h_S_) main_v15 main_c_5
  let main_v17 : IVec S_ 1 := andi main_v12 main_v16
  let main_v18 : FVec F S64 .f32 := Host.absf main_arg7
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_cst_7 : FVec F S_ .f32 := constant S_ .f32 0x00000000#32
  let main_v21 : FVec F S64 .f32 := broadcastInDim S64 ![] bcast_S_S64 main_cst_7
  let main_v22 : IVec S64 1 := cmpf .une main_arg7 main_v21
  let main_v23 : IVec S64 1 := andi main_v20 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v17 main_v24
  main_v25

def fn {F : FTy → Type} [FloatOps F] (main_arg0 : FVec F S4096x200x1 .f32) (main_arg1 : IVec S4096x200 32) (main_arg2 : IVec S4096x200 32) (main_arg3 : FVec F S1x64 .f32) (main_arg4 : FVec F S64 .f32) (main_arg5 : FVec F S21x64 .f32) (main_arg6 : FVec F S4x64 .f32) (main_arg7 : FVec F S64 .f32) (main_arg8 : FVec F S64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg1 main_v0
  let main_c_0 : IVec S_ 32 := constantI S_ 32 20#32
  let main_v2 : IVec S4096x200 32 := broadcastInDim S4096x200 ![] bcast_S_S4096x200 main_c_0
  let main_v3 : IVec S4096x200 1 := cmpi .sle main_arg1 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg2 main_v6
  let main_c_3 : IVec S_ 32 := constantI S_ 32 3#32
  let main_v8 : IVec S4096x200 32 := broadcastInDim S4096x200 ![] bcast_S_S4096x200 main_c_3
  let main_v9 : IVec S4096x200 1 := cmpi .sle main_arg2 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : IVec S_ 1 := andi main_v5 main_v11
  let main_v13 : FVec F S4096x200x1 .f32 := Host.absf main_arg0
  let main_cst : FVec F S_ .f32 := constant S_ .f32 0x7F800000#32
  let main_v14 : FVec F S4096x200x1 .f32 := broadcastInDim S4096x200x1 ![] bcast_S_S4096x200x1 main_cst
  let main_v15 : IVec S4096x200x1 1 := cmpf .olt main_v13 main_v14
  let main_c_5 : IVec S_ 1 := constantI S_ 1 1#1
  fn_part1 (F := F) main_arg7 main_v12 main_v15 main_c_5
-- ==== Kernel.lean ====
abbrev S4096x200x1 : Shape := ⟨3, ![4096, 200, 1]⟩
abbrev S4096x200 : Shape := ⟨2, ![4096, 200]⟩
abbrev S1x64 : Shape := ⟨2, ![1, 64]⟩
abbrev S64 : Shape := ⟨1, ![64]⟩
abbrev S21x64 : Shape := ⟨2, ![21, 64]⟩
abbrev S4x64 : Shape := ⟨2, ![4, 64]⟩
abbrev S200x4096 : Shape := ⟨2, ![200, 4096]⟩
abbrev S200x1x4096 : Shape := ⟨3, ![200, 1, 4096]⟩
abbrev S64x64 : Shape := ⟨2, ![64, 64]⟩
abbrev S_ : Shape := ⟨0, ![]⟩
abbrev S48x64 : Shape := ⟨2, ![48, 64]⟩
abbrev S1 : Shape := ⟨1, ![1]⟩
abbrev S64x48 : Shape := ⟨2, ![64, 48]⟩
abbrev S64x1 : Shape := ⟨2, ![64, 1]⟩
abbrev S200x64x4096 : Shape := ⟨3, ![200, 64, 4096]⟩
abbrev S4x1x4096 : Shape := ⟨3, ![4, 1, 4096]⟩
abbrev S4x64x4096 : Shape := ⟨3, ![4, 64, 4096]⟩
abbrev S40x4096 : Shape := ⟨2, ![40, 4096]⟩
abbrev S1x1x4096 : Shape := ⟨3, ![1, 1, 4096]⟩
abbrev S1x4096 : Shape := ⟨2, ![1, 4096]⟩
abbrev S7x4096 : Shape := ⟨2, ![7, 4096]⟩
abbrev S48x4096 : Shape := ⟨2, ![48, 4096]⟩
abbrev S64x4096 : Shape := ⟨2, ![64, 4096]⟩
abbrev S4096 : Shape := ⟨1, ![4096]⟩
abbrev S1x64x4096 : Shape := ⟨3, ![1, 64, 4096]⟩
abbrev S4096x200x64 : Shape := ⟨3, ![4096, 200, 64]⟩

abbrev nBuf : Space → Nat
  | .hbm => 59
  | .vmem => 11
  | .smem => 0
  | _ => 0

abbrev bufTy : (tb : Table) → Fin (tcTables nBuf tb) → BufTy
  | .hbm, ⟨0, _⟩ => ⟨S4096x200x1, .f32⟩
  | .hbm, ⟨1, _⟩ => ⟨S4096x200, .i32⟩
  | .hbm, ⟨2, _⟩ => ⟨S4096x200, .i32⟩
  | .hbm, ⟨3, _⟩ => ⟨S1x64, .f32⟩
  | .hbm, ⟨4, _⟩ => ⟨S64, .f32⟩
  | .hbm, ⟨5, _⟩ => ⟨S21x64, .f32⟩
  | .hbm, ⟨6, _⟩ => ⟨S4x64, .f32⟩
  | .hbm, ⟨7, _⟩ => ⟨S64, .f32⟩
  | .hbm, ⟨8, _⟩ => ⟨S64, .f32⟩
  | .hbm, ⟨9, _⟩ => ⟨S200x4096, .i32⟩
  | .hbm, ⟨10, _⟩ => ⟨S200x1x4096, .i32⟩
  | .hbm, ⟨11, _⟩ => ⟨S200x4096, .i32⟩
  | .hbm, ⟨12, _⟩ => ⟨S200x1x4096, .i32⟩
  | .hbm, ⟨13, _⟩ => ⟨S4096x200, .f32⟩
  | .hbm, ⟨14, _⟩ => ⟨S200x4096, .f32⟩
  | .hbm, ⟨15, _⟩ => ⟨S200x1x4096, .f32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S64x64, .f32⟩
  | .hbm, ⟨28, _⟩ => ⟨S64x64, .f32⟩
  | .hbm, ⟨29, _⟩ => ⟨S21x64, .f32⟩
  | .hbm, ⟨30, _⟩ => ⟨S1x64, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S1x64, .f32⟩
  | .hbm, ⟨35, _⟩ => ⟨S_, .f32⟩
  | .hbm, ⟨36, _⟩ => ⟨S48x64, .f32⟩
  | .hbm, ⟨37, _⟩ => ⟨S_, .i32⟩
  | .hbm, ⟨38, _⟩ => ⟨S1, .i32⟩
  | .hbm, ⟨39, _⟩ => ⟨S48x64, .f32⟩
  | .hbm, ⟨40, _⟩ => ⟨S_, .i32⟩
  | .hbm, ⟨41, _⟩ => ⟨S1, .i32⟩
  | .hbm, ⟨42, _⟩ => ⟨S48x64, .f32⟩
  | .hbm, ⟨43, _⟩ => ⟨S_, .i32⟩
  | .hbm, ⟨44, _⟩ => ⟨S1, .i32⟩
  | .hbm, ⟨45, _⟩ => ⟨S48x64, .f32⟩
  | .hbm, ⟨46, _⟩ => ⟨S64x48, .f32⟩
  | .hbm, ⟨47, _⟩ => ⟨S64x48, .bf16⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S200x64x4096, .f32⟩
  | .hbm, ⟨58, _⟩ => ⟨S4096x200x64, .f32⟩
  | .local _ .vmem, ⟨0, _⟩ => ⟨S4x1x4096, .i32⟩
  | .local _ .vmem, ⟨1, _⟩ => ⟨S4x1x4096, .i32⟩
  | .local _ .vmem, ⟨2, _⟩ => ⟨S4x1x4096, .i32⟩
  | .local _ .vmem, ⟨3, _⟩ => ⟨S4x1x4096, .i32⟩
  | .local _ .vmem, ⟨4, _⟩ => ⟨S4x1x4096, .f32⟩
  | .local _ .vmem, ⟨5, _⟩ => ⟨S4x1x4096, .f32⟩
  | .local _ .vmem, ⟨6, _⟩ => ⟨S64x48, .bf16⟩
  | .local _ .vmem, ⟨7, _⟩ => ⟨S64x1, .f32⟩
  | .local _ .vmem, ⟨8, _⟩ => ⟨S64x1, .f32⟩
  | .local _ .vmem, ⟨9, _⟩ => ⟨S4x64x4096, .f32⟩
  | .local _ .vmem, ⟨10, _⟩ => ⟨S4x64x4096, .f32⟩
  | _, _ => ⟨S4096x200x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x200x1 : Shape := ⟨3, ![4096, 200, 1]⟩
abbrev S4096x200 : Shape := ⟨2, ![4096, 200]⟩
abbrev S1x64 : Shape := ⟨2, ![1, 64]⟩
abbrev S64 : Shape := ⟨1, ![64]⟩
abbrev S21x64 : Shape := ⟨2, ![21, 64]⟩
abbrev S4x64 : Shape := ⟨2, ![4, 64]⟩
abbrev S4096x200x64 : Shape := ⟨3, ![4096, 200, 64]⟩
abbrev S1x1x64 : Shape := ⟨3, ![1, 1, 64]⟩
abbrev S_ : Shape := ⟨0, ![]⟩
abbrev S1 : Shape := ⟨1, ![1]⟩
abbrev S1x1x1 : Shape := ⟨3, ![1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S4096x200x1, .f32⟩
  | .hbm, ⟨1, _⟩ => ⟨S4096x200, .i32⟩
  | .hbm, ⟨2, _⟩ => ⟨S4096x200, .i32⟩
  | .hbm, ⟨3, _⟩ => ⟨S1x64, .f32⟩
  | .hbm, ⟨4, _⟩ => ⟨S64, .f32⟩
  | .hbm, ⟨5, _⟩ => ⟨S21x64, .f32⟩
  | .hbm, ⟨6, _⟩ => ⟨S4x64, .f32⟩
  | .hbm, ⟨7, _⟩ => ⟨S64, .f32⟩
  | .hbm, ⟨8, _⟩ => ⟨S64, .f32⟩
  | .hbm, ⟨9, _⟩ => ⟨S4096x200x64, .f32⟩
  | .hbm, ⟨10, _⟩ => ⟨S1x1x64, .f32⟩
  | .hbm, ⟨11, _⟩ => ⟨S4096x200x64, .f32⟩
  | .hbm, ⟨12, _⟩ => ⟨S4096x200x64, .f32⟩
  | .hbm, ⟨13, _⟩ => ⟨S_, .i32⟩
  | .hbm, ⟨14, _⟩ => ⟨S4096x200, .i32⟩
  | .hbm, ⟨15, _⟩ => ⟨S4096x200, .i1⟩
  | .hbm, ⟨16, _⟩ => ⟨S_, .i32⟩
  | .hbm, ⟨17, _⟩ => ⟨S4096x200, .i32⟩
  | .hbm, ⟨18, _⟩ => ⟨S4096x200, .i32⟩
  | .hbm, ⟨19, _⟩ => ⟨S4096x200, .i32⟩
  | .hbm, ⟨20, _⟩ => ⟨S4096x200x1, .i32⟩
  | .hbm, ⟨21, _⟩ => ⟨S1, .i32⟩
  | .hbm, ⟨22, _⟩ => ⟨S_, .i32⟩
  | .hbm, ⟨23, _⟩ => ⟨S4096x200x1, .i32⟩
  | .hbm, ⟨24, _⟩ => ⟨S4096x200x1, .i1⟩
  | .hbm, ⟨25, _⟩ => ⟨S1x1x1, .i32⟩
  | .hbm, ⟨26, _⟩ => ⟨S4096x200x1, .i32⟩
  | .hbm, ⟨27, _⟩ => ⟨S4096x200x1, .i1⟩
  | .hbm, ⟨28, _⟩ => ⟨S4096x200x1, .i1⟩
  | .hbm, ⟨29, _⟩ => ⟨S_, .i1⟩
  | .hbm, ⟨30, _⟩ => ⟨S4096x200, .i1⟩
  | .hbm, ⟨31, _⟩ => ⟨S4096x200x64, .f32⟩
  | .hbm, ⟨32, _⟩ => ⟨S4096x200x64, .i1⟩
  | .hbm, ⟨33, _⟩ => ⟨S_, .f32⟩
  | .hbm, ⟨34, _⟩ => ⟨S4096x200x64, .f32⟩
  | .hbm, ⟨35, _⟩ => ⟨S4096x200x64, .f32⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S_, .i32⟩
  | .hbm, ⟨40, _⟩ => ⟨S4096x200, .i32⟩
  | .hbm, ⟨41, _⟩ => ⟨S4096x200, .i32⟩
  | .hbm, ⟨42, _⟩ => ⟨S4096x200, .i32⟩
  | .hbm, ⟨43, _⟩ => ⟨S4096x200x1, .i32⟩
  | .hbm, ⟨44, _⟩ => ⟨S1, .i32⟩
  | .hbm, ⟨45, _⟩ => ⟨S_, .i32⟩
  | .hbm, ⟨46, _⟩ => ⟨S4096x200x1, .i32⟩
  | .hbm, ⟨47, _⟩ => ⟨S4096x200x1, .i1⟩
  | .hbm, ⟨48, _⟩ => ⟨S1x1x1, .i32⟩
  | .hbm, ⟨49, _⟩ => ⟨S4096x200x1, .i32⟩
  | .hbm, ⟨50, _⟩ => ⟨S4096x200x1, .i1⟩
  | .hbm, ⟨51, _⟩ => ⟨S4096x200x1, .i1⟩
  | .hbm, ⟨52, _⟩ => ⟨S_, .i1⟩
  | .hbm, ⟨53, _⟩ => ⟨S4096x200, .i1⟩
  | .hbm, ⟨54, _⟩ => ⟨S4096x200x64, .f32⟩
  | .hbm, ⟨55, _⟩ => ⟨S4096x200x64, .i1⟩
  | .hbm, ⟨56, _⟩ => ⟨S_, .f32⟩
  | .hbm, ⟨57, _⟩ => ⟨S4096x200x64, .f32⟩
  | .hbm, ⟨58, _⟩ => ⟨S4096x200x64, .f32⟩
  | .hbm, ⟨59, _⟩ => ⟨S4096x200x64, .f32⟩
  | .hbm, ⟨60, _⟩ => ⟨S4096x200x64, .f32⟩
  | .hbm, ⟨61, _⟩ => ⟨S_, .f32⟩
  | .hbm, ⟨62, _⟩ => ⟨S4096x200, .f32⟩
  | .hbm, ⟨63, _⟩ => ⟨S4096x200x1, .f32⟩
  | .hbm, ⟨64, _⟩ => ⟨S_, .f32⟩
  | .hbm, ⟨65, _⟩ => ⟨S4096x200x1, .f32⟩
  | .hbm, ⟨66, _⟩ => ⟨S4096x200x1, .f32⟩
  | .hbm, ⟨67, _⟩ => ⟨S4096x200x64, .f32⟩
  | .hbm, ⟨68, _⟩ => ⟨S4096x200x64, .f32⟩
  | .hbm, ⟨69, _⟩ => ⟨S4096x200x64, .f32⟩
  | .hbm, ⟨70, _⟩ => ⟨S_, .f32⟩
  | .hbm, ⟨71, _⟩ => ⟨S4096x200, .f32⟩
  | .hbm, ⟨72, _⟩ => ⟨S4096x200x1, .f32⟩
  | .hbm, ⟨73, _⟩ => ⟨S_, .f32⟩
  | .hbm, ⟨74, _⟩ => ⟨S4096x200x1, .f32⟩
  | .hbm, ⟨75, _⟩ => ⟨S4096x200x1, .f32⟩
  | .hbm, ⟨76, _⟩ => ⟨S4096x200x64, .f32⟩
  | .hbm, ⟨77, _⟩ => ⟨S4096x200x64, .f32⟩
  | .hbm, ⟨78, _⟩ => ⟨S_, .f32⟩
  | .hbm, ⟨79, _⟩ => ⟨S4096x200x1, .f32⟩
  | .hbm, ⟨80, _⟩ => ⟨S4096x200x1, .f32⟩
  | .hbm, ⟨81, _⟩ => ⟨S4096x200x1, .f32⟩
  | .hbm, ⟨82, _⟩ => ⟨S4096x200x64, .f32⟩
  | .hbm, ⟨83, _⟩ => ⟨S4096x200x64, .f32⟩
  | .hbm, ⟨84, _⟩ => ⟨S1x1x64, .f32⟩
  | .hbm, ⟨85, _⟩ => ⟨S4096x200x64, .f32⟩
  | .hbm, ⟨86, _⟩ => ⟨S4096x200x64, .f32⟩
  | .hbm, ⟨87, _⟩ => ⟨S1x1x64, .f32⟩
  | .hbm, ⟨88, _⟩ => ⟨S4096x200x64, .f32⟩
  | .hbm, ⟨89, _⟩ => ⟨S4096x200x64, .f32⟩
  | _, _ => ⟨S4096x200x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_cst : Ref sig .tc := ⟨.hbm, 61, rfl⟩
abbrev main_v8 : Ref sig .tc := ⟨.hbm, 62, rfl⟩
abbrev main_v9 : Ref sig .tc := ⟨.hbm, 63, rfl⟩
abbrev main_cst_0 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_1 : Ref sig .tc := ⟨.hbm, 70, rfl⟩
abbrev main_v15 : Ref sig .tc := ⟨.hbm, 71, rfl⟩
abbrev main_v16 : Ref sig .tc := ⟨.hbm, 72, rfl⟩
abbrev main_cst_2 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst_3 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩

abbrev nD : Nat := 1
abbrev τ : Topo := Topo.v7x

variable {F : FTy → Type} [FloatOps F]
-- ==== Proof.Norm.lean ====
/-
  THE MATHEMATICS OF ONE TOKEN, with no program in sight: layer normalisation of an embedding over 64 features, written
  plainly (`plain`) and written the way the kernel does it (`folded`: centring matrix and scale folded into the tables,
  variance taken back out of the scaled values), agree over the extended reals whenever the duration is a real number
  and the scale's entries are nonzero reals (`folded_eq_plain`). The tables, the bias and the shift may hold infinities:
  if one of a token's features is infinite then both forms leave the shift alone.
-/
module

public import Idealize.ShloMosaic.PureOps.Ideal
public import Idealize.ShloMosaic.PureOps.Ideal.Laws

@[expose] public section

noncomputable section

namespace Cert.Norm

open Idealize.ShloMosaic
open scoped BigOperators

/-! ## Real and infinite extended reals -/

/-- The extended real is a real number. -/
def IsReal (x : EReal) : Prop := x ≠ ⊤ ∧ x ≠ ⊥

/-- A real number is real as an extended real. -/
theorem isReal_coe (r : ℝ) : IsReal (r : EReal) := ⟨EReal.coe_ne_top r, EReal.coe_ne_bot r⟩

/-- A real extended real is the embedding of its real part. -/
theorem IsReal.eq_coe {x : EReal} (h : IsReal x) : x = ((x.toReal : ℝ) : EReal) := (EReal.coe_toReal h.1 h.2).symm

/-- A sum is real exactly when both terms are. -/
theorem isReal_add {x y : EReal} : IsReal (x + y) ↔ IsReal x ∧ IsReal y := by
  induction x <;> induction y <;> simp [IsReal, ← EReal.coe_add]

/-- A finite sum is real exactly when every term is. -/
theorem isReal_sum {ι : Type} (s : Finset ι) (f : ι → EReal) : IsReal (∑ i ∈ s, f i) ↔ ∀ i ∈ s, IsReal (f i) := by
  classical
  induction s using Finset.induction_on with
  | empty => simpa using isReal_coe 0
  | insert a s ha ih => rw [Finset.sum_insert ha, isReal_add, ih, Finset.forall_mem_insert]

/-- Multiplying by a nonzero real neither makes nor removes an infinity. -/
theorem isReal_mul_coe {x : EReal} {r : ℝ} (hr : r ≠ 0) : IsReal (x * (r : EReal)) ↔ IsReal x := by
  induction x with
  | coe a => exact ⟨fun _ => isReal_coe a, fun _ => by rw [← EReal.coe_mul]; exact isReal_coe _⟩
  | bot =>
    rcases lt_or_gt_of_ne hr with h | h
    · simp [EReal.bot_mul_coe_of_neg h, IsReal]
    · simp [EReal.bot_mul_coe_of_pos h, IsReal]
  | top =>
    rcases lt_or_gt_of_ne hr with h | h
    · simp [EReal.top_mul_coe_of_neg h, IsReal]
    · simp [EReal.top_mul_coe_of_pos h, IsReal]

/-- A difference is real exactly when both terms are. -/
theorem isReal_sub {x y : EReal} : IsReal (x - y) ↔ IsReal x ∧ IsReal y := by
  induction x <;> induction y <;> simp [IsReal, ← EReal.coe_sub]

/-- The square of an infinite number is `⊤`. -/
theorem mul_self_of_not_isReal {x : EReal} (h : ¬ IsReal x) : x * x = ⊤ := by
  induction x with
  | coe a => exact absurd (isReal_coe a) h
  | bot => rfl
  | top => rfl

/-- A sum of `⊤`s over a nonempty index is `⊤`. -/
theorem sum_eq_top {n : Nat} (f : Fin (n + 1) → EReal) (h : ∀ i, f i = ⊤) : ∑ i, f i = ⊤ := by
  have hb : (∑ i, f i) ≠ ⊥ := by
    refine Finset.sum_induction f (· ≠ ⊥) (fun a b ha hb => EReal.add_ne_bot_iff.2 ⟨ha, hb⟩) (by simp) fun i _ => ?_
    rw [h i]; simp
  have hr : ¬ IsReal (∑ i, f i) := fun q => ((isReal_sum _ f).1 q 0 (Finset.mem_univ _)).1 (h 0)
  by_contra ht
  exact hr ⟨ht, hb⟩

/-- The embedding of a finite sum of reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division by a nonzero real is multiplication by its inverse. -/
theorem div_coe (x : EReal) {r : ℝ} (hr : r ≠ 0) : Ideal.div x (r : EReal) = x * ((r⁻¹ : ℝ) : EReal) := by
  unfold Ideal.div
  rw [if_neg (fun h => hr (EReal.coe_eq_zero.1 h)), EReal.coe_inv]

/-- Division of reals. -/
theorem div_coe_coe (x : ℝ) {r : ℝ} (hr : r ≠ 0) : Ideal.div (x : EReal) (r : EReal) = ((x / r : ℝ) : EReal) := by
  rw [div_coe _ hr, ← EReal.coe_mul, div_eq_mul_inv]

/-- Division by `⊤` gives zero. -/
theorem div_top (x : EReal) : Ideal.div x ⊤ = 0 := by
  unfold Ideal.div
  rw [if_neg (by simp)]
  simp

/-- The square root of infinity is infinity. -/
theorem sqrt_top : Ideal.sqrt ⊤ = ⊤ := rfl
/-- One over the square root of infinity is zero. -/
theorem rsqrt_top : Ideal.rsqrt ⊤ = 0 := rfl

/-- The square root of a positive real. -/
theorem sqrt_coe_pos {r : ℝ} (h : 0 < r) : Ideal.sqrt (r : EReal) = ((Real.sqrt r : ℝ) : EReal) := by
  show (if r < 0 then (⊥ : EReal) else ((Real.sqrt r : ℝ) : EReal)) = _
  rw [if_neg (not_lt.2 h.le)]

/-- One over the square root of a positive real. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-! ## The two forms -/

/-- A token's features before normalisation: the duration's line plus its bias, the machine's row, the status's row. -/
def emb (d : EReal) (W b mt st : Fin 64 → EReal) (j : Fin 64) : EReal := ((d * W j + b j) + mt j) + st j

/-- The mean of 64 features. -/
def mean (e : Fin 64 → EReal) : EReal := Ideal.div (∑ k, e k) ((64 : ℝ) : EReal)

/-- Layer normalisation as it is written: centre, divide by the root of the variance plus `ε`, scale, shift. -/
def plain (ε : EReal) (e γ β : Fin 64 → EReal) (j : Fin 64) : EReal :=
  Ideal.div (e j - mean e) (Ideal.sqrt (mean (fun k => (e k - mean e) * (e k - mean e)) + ε)) * γ j + β j

/-- The scaled centring matrix: `x ↦ (x − mean x) · γ` as a product from the right. -/
def centre (γ : Fin 64 → EReal) (i j : Fin 64) : EReal :=
  ((if i = j then ((1 : ℝ) : EReal) else ((0 : ℝ) : EReal)) - ((1 / 64 : ℝ) : EReal)) * γ j

/-- A row of features under the scaled centring matrix. -/
def fold (γ x : Fin 64 → EReal) (j : Fin 64) : EReal := ∑ i, x i * centre γ i j

/-- The scaled centred features as the kernel has them: the duration times one folded row, plus the machine's folded row,
    plus the folded row of the status with the bias. -/
def comb (γ : Fin 64 → EReal) (d : EReal) (W b mt st : Fin 64 → EReal) (j : Fin 64) : EReal :=
  fold γ W j * d + fold γ mt j + fold γ (fun i => st i + b i) j

/-- The weight that takes the scale out of a squared feature and divides by 64. -/
def weight (γ : Fin 64 → EReal) (j : Fin 64) : EReal := Ideal.div ((1 : ℝ) : EReal) (((64 : ℝ) : EReal) * γ j * γ j)

/-- Layer normalisation as the kernel has it, from the scaled centred features `c`. -/
def folded (ε : EReal) (c γ β : Fin 64 → EReal) (j : Fin 64) : EReal :=
  c j * Ideal.rsqrt ((∑ k, c k * c k * weight γ k) + ε) + β j

/-! ## They agree -/

section
variable {g : Fin 64 → ℝ}

/-- The real entry of the scaled centring matrix. -/
def centreR (g : Fin 64 → ℝ) (i j : Fin 64) : ℝ := ((if i = j then 1 else 0) - 1 / 64) * g j

/-- For a real scale, an entry of the centring matrix is a real number. -/
theorem centre_coe (i j : Fin 64) : centre (fun k => (g k : EReal)) i j = ((centreR g i j : ℝ) : EReal) := by
  unfold centre centreR
  by_cases h : i = j
  · simp only [if_pos h]; rw [← EReal.coe_sub, ← EReal.coe_mul]
  · simp only [if_neg h]; rw [← EReal.coe_sub, ← EReal.coe_mul]

/-- For a scale without zeros, no entry of the centring matrix is zero. -/
theorem centreR_ne_zero (hg : ∀ k, g k ≠ 0) (i j : Fin 64) : centreR g i j ≠ 0 := by
  unfold centreR
  refine mul_ne_zero ?_ (hg j)
  split <;> norm_num

/-- A folded row is real exactly when the row is. -/
theorem isReal_fold (hg : ∀ k, g k ≠ 0) (x : Fin 64 → EReal) (j : Fin 64) :
    IsReal (fold (fun k => (g k : EReal)) x j) ↔ ∀ i, IsReal (x i) := by
  unfold fold
  rw [isReal_sum]
  refine ⟨fun h i => ?_, fun h i _ => ?_⟩
  · have := h i (Finset.mem_univ i)
    rwa [centre_coe, isReal_mul_coe (centreR_ne_zero hg i j)] at this
  · rw [centre_coe, isReal_mul_coe (centreR_ne_zero hg i j)]; exact h i

/-- Folding a real row: the row centred and scaled. -/
theorem fold_coe (x : Fin 64 → ℝ) (j : Fin 64) :
    fold (fun k => (g k : EReal)) (fun i => (x i : EReal)) j = (((x j - (∑ i, x i) / 64) * g j : ℝ) : EReal) := by
  unfold fold
  have e : ∀ i, ((x i : ℝ) : EReal) * centre (fun k => (g k : EReal)) i j = ((x i * centreR g i j : ℝ) : EReal) := fun i => by
    rw [centre_coe, ← EReal.coe_mul]
  rw [Finset.sum_congr rfl fun i _ => e i, ← coe_sum]
  congr 1
  have s : ∀ i, x i * centreR g i j = (if i = j then x i else 0) * g j - x i * (g j / 64) := fun i => by
    unfold centreR; split <;> ring
  rw [Finset.sum_congr rfl fun i _ => s i, Finset.sum_sub_distrib, ← Finset.sum_mul, ← Finset.sum_mul,
    Finset.sum_ite_eq' Finset.univ j x, if_pos (Finset.mem_univ j)]
  ring

/-- For a real scale without zeros, a variance weight is a real number. -/
theorem weight_coe (hg : ∀ k, g k ≠ 0) (j : Fin 64) :
    weight (fun k => (g k : EReal)) j = ((1 / (64 * g j * g j) : ℝ) : EReal) := by
  unfold weight
  rw [← EReal.coe_mul, ← EReal.coe_mul, div_coe_coe _ (mul_ne_zero (mul_ne_zero (by norm_num) (hg j)) (hg j))]

/-- The mean of real features is the real mean. -/
theorem mean_coe (x : Fin 64 → ℝ) : mean (fun i => (x i : EReal)) = (((∑ i, x i) / 64 : ℝ) : EReal) := by
  unfold mean
  rw [← coe_sum, div_coe_coe _ (by norm_num)]

/-- Where every feature is real, the combined folded rows are the centred, scaled features. -/
theorem comb_coe (d : ℝ) (W : Fin 64 → EReal) (b mt st p : Fin 64 → ℝ) (hp : ∀ i, (d : EReal) * W i = (p i : EReal)) (j : Fin 64) :
    comb (fun k => (g k : EReal)) d W (fun i => (b i : EReal)) (fun i => (mt i : EReal)) (fun i => (st i : EReal)) j
      = ((((p j + b j + mt j + st j) - (∑ i, (p i + b i + mt i + st i)) / 64) * g j : ℝ) : EReal) := by
  have hW : fold (fun k => (g k : EReal)) W j * (d : EReal) = (((p j - (∑ i, p i) / 64) * g j : ℝ) : EReal) := by
    by_cases hd : d = 0
    · subst hd
      have hp0 : ∀ i, p i = 0 := fun i => by
        have := hp i
        rw [EReal.coe_zero, zero_mul] at this
        exact (EReal.coe_eq_zero.1 this.symm)
      rw [EReal.coe_zero, mul_zero]
      simp [hp0]
    · have hr : ∀ i, IsReal (W i) := fun i => by
        have := hp i
        rw [mul_comm] at this
        exact (isReal_mul_coe hd).1 (this ▸ isReal_coe _)
      obtain ⟨w, rfl⟩ : ∃ w : Fin 64 → ℝ, W = fun i => (w i : EReal) := ⟨fun i => (W i).toReal, funext fun i => (hr i).eq_coe⟩
      have e : ∀ i, p i = d * w i := fun i => by
        have := hp i
        rw [← EReal.coe_mul] at this
        exact (EReal.coe_eq_coe_iff.1 this).symm
      rw [fold_coe, ← EReal.coe_mul]
      congr 1
      simp only [e, ← Finset.mul_sum]
      ring
  unfold comb
  have hs : (fun i => ((st i : ℝ) : EReal) + ((b i : ℝ) : EReal)) = fun i => ((st i + b i : ℝ) : EReal) :=
    funext fun i => (EReal.coe_add _ _).symm
  rw [hW, hs, fold_coe, fold_coe, ← EReal.coe_add, ← EReal.coe_add]
  congr 1
  simp only [Finset.sum_add_distrib]
  ring

/-- Both forms on real centred features: the kernel's, from `(x − mean x) · γ`, is the plain one of `x`. -/
theorem folded_eq_plain_real (hg : ∀ k, g k ≠ 0) {ε : ℝ} (hε : 0 < ε) (x : Fin 64 → ℝ) (β : Fin 64 → EReal) (j : Fin 64) :
    folded ε (fun k => (((x k - (∑ i, x i) / 64) * g k : ℝ) : EReal)) (fun k => (g k : EReal)) β j
      = plain ε (fun k => (x k : EReal)) (fun k => (g k : EReal)) β j := by
  unfold folded plain
  rw [mean_coe]
  set μ : ℝ := (∑ i, x i) / 64
  have hv : mean (fun k => ((x k : EReal) - (μ : EReal)) * ((x k : EReal) - (μ : EReal)))
      = (((∑ k, (x k - μ) * (x k - μ)) / 64 : ℝ) : EReal) := by
    refine Eq.trans (congrArg mean (funext fun k => ?_)) (mean_coe fun k => (x k - μ) * (x k - μ))
    rw [← EReal.coe_sub, ← EReal.coe_mul]
  have hw : (∑ k, (((x k - μ) * g k : ℝ) : EReal) * (((x k - μ) * g k : ℝ) : EReal) * weight (fun k => (g k : EReal)) k)
      = (((∑ k, (x k - μ) * (x k - μ)) / 64 : ℝ) : EReal) := by
    rw [Finset.sum_div, coe_sum]
    refine Finset.sum_congr rfl fun k _ => ?_
    rw [weight_coe hg, ← EReal.coe_mul, ← EReal.coe_mul]
    congr 1
    have := hg k
    field_simp
  rw [hv, hw, ← EReal.coe_add]
  have hnn : 0 ≤ (∑ k, (x k - μ) * (x k - μ)) / 64 :=
    div_nonneg (Finset.sum_nonneg fun k _ => mul_self_nonneg _) (by norm_num)
  have hpos : 0 < (∑ k, (x k - μ) * (x k - μ)) / 64 + ε := add_pos_of_nonneg_of_pos hnn hε
  rw [rsqrt_coe_pos hpos, sqrt_coe_pos hpos, ← EReal.coe_sub, div_coe_coe _ (Real.sqrt_pos.2 hpos).ne', ← EReal.coe_mul,
    ← EReal.coe_mul]
  congr 2
  ring

/-- Where some feature is infinite, the plain form is the shift alone. -/
theorem plain_of_infinite {ε : ℝ} (e : Fin 64 → EReal) (k : Fin 64) (hk : ¬ IsReal (e k)) (γ β : Fin 64 → EReal) (j : Fin 64) :
    plain ε e γ β j = β j := by
  have h64 : (64 : ℝ)⁻¹ ≠ 0 := by norm_num
  have hm : ¬ IsReal (mean e) := by
    unfold mean
    rw [div_coe _ (by norm_num), isReal_mul_coe h64, isReal_sum]
    exact fun h => hk (h k (Finset.mem_univ k))
  have hc : ∀ i, ¬ IsReal (e i - mean e) := fun i h => hm (isReal_sub.1 h).2
  have hv : mean (fun i => (e i - mean e) * (e i - mean e)) = ⊤ := by
    show Ideal.div (∑ i, (e i - mean e) * (e i - mean e)) ((64 : ℝ) : EReal) = ⊤
    rw [sum_eq_top _ fun i => mul_self_of_not_isReal (hc i), div_coe _ (by norm_num),
      EReal.top_mul_coe_of_pos (by norm_num)]
  unfold plain
  rw [hv, EReal.top_add_coe, sqrt_top, div_top, zero_mul, zero_add]

/-- Where every combined feature is infinite, the kernel's form is the shift alone. -/
theorem folded_of_infinite (hg : ∀ k, g k ≠ 0) {ε : ℝ} (c : Fin 64 → EReal) (hc : ∀ i, ¬ IsReal (c i)) (β : Fin 64 → EReal)
    (j : Fin 64) : folded ε c (fun k => (g k : EReal)) β j = β j := by
  have hv : (∑ k, c k * c k * weight (fun k => (g k : EReal)) k) = ⊤ := by
    refine sum_eq_top _ fun k => ?_
    rw [mul_self_of_not_isReal (hc k), weight_coe hg, EReal.top_mul_coe_of_pos]
    have : 0 < g k * g k := mul_self_pos.2 (hg k)
    have h2 : 64 * g k * g k = 64 * (g k * g k) := by ring
    rw [h2]; positivity
  unfold folded
  rw [hv, EReal.top_add_coe, rsqrt_top, mul_zero, zero_add]

/-- THE TWO FORMS AGREE: for a real duration and a scale of nonzero reals, whatever the duration's row, the bias, the
    machine's row, the status's row and the shift hold, the kernel's form is layer normalisation of the token's features. -/
theorem folded_eq_plain (hg : ∀ k, g k ≠ 0) {ε : ℝ} (hε : 0 < ε) (d : ℝ) (W b mt st β : Fin 64 → EReal) (j : Fin 64) :
    folded ε (comb (fun k => (g k : EReal)) d W b mt st) (fun k => (g k : EReal)) β j
      = plain ε (emb d W b mt st) (fun k => (g k : EReal)) β j := by
  by_cases h : ∀ i, IsReal (emb d W b mt st i)
  · have hb : ∀ i, IsReal ((d : EReal) * W i) ∧ IsReal (b i) ∧ IsReal (mt i) ∧ IsReal (st i) := fun i => by
      have := h i
      unfold emb at this
      rw [isReal_add, isReal_add, isReal_add] at this
      exact ⟨this.1.1.1, this.1.1.2, this.1.2, this.2⟩
    obtain ⟨b', rfl⟩ : ∃ w : Fin 64 → ℝ, b = fun i => (w i : EReal) := ⟨fun i => (b i).toReal, funext fun i => (hb i).2.1.eq_coe⟩
    obtain ⟨mt', rfl⟩ : ∃ w : Fin 64 → ℝ, mt = fun i => (w i : EReal) := ⟨fun i => (mt i).toReal, funext fun i => (hb i).2.2.1.eq_coe⟩
    obtain ⟨st', rfl⟩ : ∃ w : Fin 64 → ℝ, st = fun i => (w i : EReal) := ⟨fun i => (st i).toReal, funext fun i => (hb i).2.2.2.eq_coe⟩
    obtain ⟨p, hp⟩ : ∃ p : Fin 64 → ℝ, ∀ i, (d : EReal) * W i = (p i : EReal) := ⟨fun i => ((d : EReal) * W i).toReal, fun i => (hb i).1.eq_coe⟩
    have hE : emb d W (fun i => (b' i : EReal)) (fun i => (mt' i : EReal)) (fun i => (st' i : EReal))
        = fun i => ((p i + b' i + mt' i + st' i : ℝ) : EReal) := funext fun i => by
      unfold emb
      rw [hp, ← EReal.coe_add, ← EReal.coe_add, ← EReal.coe_add]
    rw [hE, ← folded_eq_plain_real hg hε (fun i => p i + b' i + mt' i + st' i) β j]
    congr 1
    exact funext fun k => comb_coe d W b' mt' st' p hp k
  · obtain ⟨k, hk⟩ := not_forall.1 h
    rw [plain_of_infinite _ k hk, folded_of_infinite hg _ (fun i hi => hk ?_)]
    unfold comb at hi
    rw [isReal_add, isReal_add] at hi
    obtain ⟨⟨h1, h2⟩, h3⟩ := hi
    have h2' := (isReal_fold hg mt i).1 h2 k
    have h3' := isReal_add.1 ((isReal_fold hg _ i).1 h3 k)
    have h1' : IsReal ((d : EReal) * W k) := by
      by_cases hd : d = 0
      · subst hd
        rw [EReal.coe_zero, zero_mul]
        exact isReal_coe 0
      · rw [mul_comm, isReal_mul_coe hd]
        exact (isReal_fold hg W i).1 ((isReal_mul_coe hd).1 h1) k
    unfold emb
    rw [isReal_add, isReal_add, isReal_add]
    exact ⟨⟨⟨h1', h3'.2⟩, h2'⟩, h3'.1⟩

end

end Cert.Norm

end
-- ==== Proof.Body.lean ====
/-
  THE KERNEL BODY AT AN ELEMENT. Each of the four slabs a grid point writes is the same function of that slab's ids, its
  durations and the whole table: `cell`, at feature `f` and lane `l`. `out_apply` reads the output block so.
-/
module

public import proofs.«01_k».proof.Defs
public import proofs.«01_k».proof.Proof.Gen.KernelIdeal.Frame
public import proofs.«01_k».proof.Proof.Norm
public import Idealize.ShloMosaic.Lib.Pointwise
public import Idealize.ShloMosaic.Lib.Pipeline.Value

@[expose] public section

noncomputable section

namespace Cert.KernelIdeal.Body

open Cert.KernelIdeal Cert.KernelIdeal.Gen Idealize.ShloMosaic Idealize.ShloMosaic.TcCoe
open scoped BigOperators

/-- Row `k` of the right factor the body builds for one lane: the duration, seven zeros, and forty rows of the two hot
    one-hot of the machine id `m` and the status id `s` moved up by 32. -/
def factor (m s : BitVec 32) (d : EReal) (k : Fin 48) : EReal :=
  if k.val < 1 then d
  else if k.val - 1 < 7 then 0
  else FloatOps.sitofp (F := Ideal) FTy.f32 (BitVec.setWidth 32
    (IntOp.ori (IntOp.cmpi .eq (BitVec.ofNat 32 (k.val - 1 - 7)) m)
      (IntOp.cmpi .eq (BitVec.ofNat 32 (k.val - 1 - 7)) (IntOp.addi s 32#32))))

/-- The scaled centred feature `f` of one lane: row `f` of the table times the factor. -/
def feat (R : Fin 64 → Fin 48 → EReal) (m s : BitVec 32) (d : EReal) (f : Fin 64) : EReal := ∑ k, R f k * factor m s d k

/-- The small positive number added to the variance. -/
def eps : EReal := Ideal.ofBits FTy.f32 0x3727C5AC#32

/-- What the body computes at feature `f` of one lane. -/
def cell (R : Fin 64 → Fin 48 → EReal) (w b : Fin 64 → EReal) (m s : BitVec 32) (d : EReal) (f : Fin 64) : EReal :=
  feat R m s d f * Ideal.rsqrt ((∑ k, feat R m s d k * feat R m s d k * w k) + eps) + b f

/-- A unit-stride slab `p` of the block at `(z, f, l)` is the block at `(p, f, l)`. -/
theorem emb_slab (p : Nat) (hp : p < 4) (inb) (z : Fin 1) (f : Fin 64) (l : Fin 4096) :
    (Rect.unit (s := S4x64x4096) ![p, 0, 0] S1x64x4096.size inb).emb (ix3 z f l) = ix3 ⟨p, hp⟩ f l := by
  funext a
  fin_cases a <;> apply Fin.ext
  · show p + 1 * z.val = p
    have := z.isLt
    omega
  · show 0 + 1 * f.val = f.val
    omega
  · show 0 + 1 * l.val = l.val
    omega

section
variable (x0 x1 : Vec Ideal S4x1x4096 .i32) (x2 : Vec Ideal S4x1x4096 .f32) (x3 : Vec Ideal S64x48 .bf16) (x4 x5 : Vec Ideal S64x1 .f32)

/-- The output block as one function of the input blocks. -/
def slabs (i : S4x64x4096.Idx) : EReal :=
  cell (fun f k => x3 (ix2 f k)) (fun k => x4 (ix2 k 0)) (fun k => x5 (ix2 k 0)) (x0 (ix3 (i 0) 0 (i 2))) (x1 (ix3 (i 0) 0 (i 2)))
    (x2 (ix3 (i 0) 0 (i 2))) (i 1)

set_option maxRecDepth 16384
set_option maxHeartbeats 4000000

/-- `slabs` at a slab's index, on the ids and the durations of that slab. -/
theorem slabs_apply (p : Fin 4) (f : Fin 64) (l : Fin 4096) : slabs x0 x1 x2 x3 x4 x5 (ix3 p f l)
    = cell (fun f k => x3 (ix2 f k)) (fun k => x4 (ix2 k 0)) (fun k => x5 (ix2 k 0)) (x0 (ix3 p 0 l)) (x1 (ix3 p 0 l)) (x2 (ix3 p 0 l)) f := rfl

set_option maxRecDepth 16384
set_option maxHeartbeats 4000000

/-- The first slab's payload is `slabs` on that slab. -/
theorem slab0 (y : S1x64x4096.Idx) :
    k0_pay3 (k0_pay2 (View.ld x0 r0_0) (View.ld x1 r0_0) (View.ld x2 r0_0) (View.ld x3 r0_1) (View.ld x4 r0_2) (View.ld x5 r0_2)) y
      = slabs x0 x1 x2 x3 x4 x5 (r0_3.emb y) := by
  idx_vars y
  rw [emb_slab 0 (by decide), slabs_apply]
  have hy : y0 = 0 := Subsingleton.elim _ _
  subst hy
  pointwise [k0_pay3, k0_pay2, cell, feat, factor, eps]
  rfl

/-- The second slab's payload is `slabs` on that slab. -/
theorem slab1 (y : S1x64x4096.Idx) :
    k0_pay5 (k0_pay4 (k0_pay12 x0 x1 x2 x3 x4 x5) (View.ld x0 r0_4) (View.ld x1 r0_4) (View.ld x2 r0_4) (View.ld x3 r0_1) (View.ld x4 r0_2)) (View.ld x5 r0_2) y
      = slabs x0 x1 x2 x3 x4 x5 (r0_5.emb y) := by
  idx_vars y
  rw [emb_slab 1 (by decide), slabs_apply]
  have hy : y0 = 0 := Subsingleton.elim _ _
  subst hy
  pointwise [k0_pay5, k0_pay4, k0_pay12, cell, feat, factor, eps]
  rfl

/-- The third slab's payload is `slabs` on that slab. -/
theorem slab2 (y : S1x64x4096.Idx) :
    k0_pay9 (k0_pay6 (k0_pay12 x0 x1 x2 x3 x4 x5) (View.ld x0 r0_6) (View.ld x1 r0_6) (View.ld x2 r0_6) (View.ld x3 r0_1)) (k0_pay7 (k0_pay12 x0 x1 x2 x3 x4 x5) (View.ld x0 r0_6) (View.ld x1 r0_6) (View.ld x2 r0_6) (View.ld x3 r0_1) (View.ld x4 r0_2)) (k0_pay8 (F := Ideal)) (View.ld x5 r0_2) y
      = slabs x0 x1 x2 x3 x4 x5 (r0_7.emb y) := by
  idx_vars y
  rw [emb_slab 2 (by decide), slabs_apply]
  have hy : y0 = 0 := Subsingleton.elim _ _
  subst hy
  pointwise [k0_pay9, k0_pay6, k0_pay7, k0_pay8, k0_pay12, cell, feat, factor, eps]
  rfl

/-- The fourth slab's payload is `slabs` on that slab. -/
theorem slab3 (y : S1x64x4096.Idx) :
    k0_pay1 (k0_pay10 (k0_pay12 x0 x1 x2 x3 x4 x5) (View.ld x0 r0_8) (View.ld x1 r0_8) (View.ld x2 r0_8) (View.ld x3 r0_1)) (k0_pay11 (k0_pay12 x0 x1 x2 x3 x4 x5) (View.ld x0 r0_8) (View.ld x1 r0_8) (View.ld x2 r0_8) (View.ld x3 r0_1) (View.ld x4 r0_2)) (View.ld x5 r0_2) y
      = slabs x0 x1 x2 x3 x4 x5 (r0_9.emb y) := by
  idx_vars y
  rw [emb_slab 3 (by decide), slabs_apply]
  have hy : y0 = 0 := Subsingleton.elim _ _
  subst hy
  pointwise [k0_pay1, k0_pay10, k0_pay11, k0_pay12, cell, feat, factor, eps]
  rfl

/-- THE OUTPUT BLOCK AT AN ELEMENT: the cell of that slab's ids and duration. -/
theorem out_apply (p : Fin 4) (f : Fin 64) (l : Fin 4096) : out0_6 x0 x1 x2 x3 x4 x5 (ix3 p f l)
    = cell (fun f k => x3 (ix2 f k)) (fun k => x4 (ix2 k 0)) (fun k => x5 (ix2 k 0)) (x0 (ix3 p 0 l)) (x1 (ix3 p 0 l)) (x2 (ix3 p 0 l)) f := by
  rw [← slabs_apply]
  unfold out0_6
  refine View.canon_apply_of_pieces (Val := Elt Ideal) (slabs x0 x1 x2 x3 x4 x5) _ (fun pc hpc => ?_) _ (cover0_6 _ _ _ _ _)
  simp only [List.mem_cons, List.not_mem_nil, or_false] at hpc
  rcases hpc with rfl | rfl | rfl | rfl
  · exact slab3 x0 x1 x2 x3 x4 x5
  · exact slab2 x0 x1 x2 x3 x4 x5
  · exact slab1 x0 x1 x2 x3 x4 x5
  · exact slab0 x0 x1 x2 x3 x4 x5

end

end Cert.KernelIdeal.Body

end
-- ==== Proof.Entry.lean ====
/-
  THE ARRAYS THE REGION READS, at entry: what the host operations before the region leave in the ids, the durations, the
  table, the weights and the offsets, as expressions over the arguments and then at an element.
-/
module

public import proofs.«01_k».proof.Defs
public import proofs.«01_k».proof.Proof.Gen.KernelIdeal.Frame
public import proofs.«01_k».proof.Proof.Norm
public import Idealize.ShloMosaic.Lib.Pointwise
public import Idealize.ShloMosaic.Lib.StableHlo.Run

@[expose] public section

noncomputable section

namespace Cert.KernelIdeal.Entry

open Cert.KernelIdeal Cert.KernelIdeal.Gen Idealize.ShloMosaic Idealize.ShloMosaic.TcCoe

/-- The centring matrix with its columns scaled: `(I - J/64) * gamma`. -/
def centreMat (γ : FVec Ideal S64 .f32) : FVec Ideal S64x64 .f32 :=
  mulf (subf (uitofp .f32 (cmpi .eq (addi (iotaInDim S64x64 32 0) (broadcastInDim S64x64 ![] bcast_S_S64x64 (constantI S_ 32 0#32))) (iotaInDim S64x64 32 1)))
    (broadcastInDim S64x64 ![] bcast_S_S64x64 (constant S_ .f32 0x3C800000#32)))
    (broadcastInDim S64x64 ![0, 1] bcast_S1x64_S64x64_0_1 (broadcastInDim S1x64 ![1] bcast_S64_S1x64_1 γ))

/-- The one-entry index array of a placement. -/
def at_ (k : BitVec 32) : Vec Ideal S1 .i32 := broadcastInDim S1 ![] bcast_S_S1 (constantI S_ 32 k)

/-- The table: three groups of rows placed over zeros, at rows 0, 8 and 40. -/
def placed (r : FVec Ideal S1x64 .f32) (s : FVec Ideal S21x64 .f32) (t : FVec Ideal S4x64 .f32) : FVec Ideal S48x64 .f32 :=
  Host.scatter scatter_S48x64_S1_S4x64_01_n_0_0 (fun _ b => b)
    (Host.scatter scatter_S48x64_S1_S21x64_01_n_0_0 (fun _ b => b)
      (Host.scatter scatter_S48x64_S1_S1x64_01_n_0_0 (fun _ b => b)
        (broadcastInDim S48x64 ![] bcast_S_S48x64 (constant (F := Ideal) S_ .f32 0x00000000#32)) (at_ 0#32) r) (at_ 8#32) s) (at_ 40#32) t

/-- The three groups of rows: the duration direction, the machine table and the status table with the bias, each centred and scaled. -/
def table (W : FVec Ideal S1x64 .f32) (b : FVec Ideal S64 .f32) (mt : FVec Ideal S21x64 .f32) (st : FVec Ideal S4x64 .f32) (γ : FVec Ideal S64 .f32) :
    FVec Ideal S48x64 .f32 :=
  placed (Host.dotGeneral dot_S1x64_S64x64_S1x64_1_0_0_1_n_n none W (centreMat γ))
    (Host.dotGeneral dot_S21x64_S64x64_S21x64_1_0_0_1_n_n none mt (centreMat γ))
    (Host.dotGeneral dot_S4x64_S64x64_S4x64_1_0_0_1_n_n none
      (addf st (broadcastInDim S4x64 ![0, 1] bcast_S1x64_S4x64_0_1 (broadcastInDim S1x64 ![1] bcast_S64_S1x64_1 b))) (centreMat γ))

section
variable (m : (ℓ : Loc nD τ sig) → Buf (Elt Ideal) ℓ) (c : Dev nD)

set_option maxRecDepth 16384
set_option maxHeartbeats 4000000

/-- The machine ids as the region reads them. -/
theorem v1_eq : V m c main_v1 = shapeCast S200x1x4096 (transpose S200x4096 [1, 0] (m ((c : Thread nD τ).loc main_arg1)) transposes_S4096x200_S200x4096_1_0)
    shapeCasts_S200x4096_S200x1x4096 := by
  unfold V V0
  simp only [List.flatten_cons, List.flatten_nil, List.append_nil, hostOps0]
  after_results_simp <;> rfl

/-- The status ids as the region reads them. -/
theorem v3_eq : V m c main_v3 = shapeCast S200x1x4096 (transpose S200x4096 [1, 0] (m ((c : Thread nD τ).loc main_arg2)) transposes_S4096x200_S200x4096_1_0)
    shapeCasts_S200x4096_S200x1x4096 := by
  unfold V V0
  simp only [List.flatten_cons, List.flatten_nil, List.append_nil, hostOps0]
  after_results_simp <;> rfl

/-- The durations as the region reads them. -/
theorem v6_eq : V m c main_v6 = shapeCast S200x1x4096 (transpose S200x4096 [1, 0]
    (shapeCast S4096x200 (m ((c : Thread nD τ).loc main_arg0)) shapeCasts_S4096x200x1_S4096x200) transposes_S4096x200_S200x4096_1_0)
    shapeCasts_S200x4096_S200x1x4096 := by
  unfold V V0
  simp only [List.flatten_cons, List.flatten_nil, List.append_nil, hostOps0]
  after_results_simp <;> rfl

/-- The table as the region reads it, transposed. -/
theorem v32_eq : V m c main_v32 = truncf (F := Ideal) .bf16 (transpose S64x48 [1, 0] (table (m ((c : Thread nD τ).loc main_arg3)) (m ((c : Thread nD τ).loc main_arg4))
    (m ((c : Thread nD τ).loc main_arg5)) (m ((c : Thread nD τ).loc main_arg6)) (m ((c : Thread nD τ).loc main_arg7))) transposes_S48x64_S64x48_1_0)
    bitsLt_bf16_f32 := by
  unfold V V0
  simp only [List.flatten_cons, List.flatten_nil, List.append_nil, hostOps0]
  after_results_simp <;> rfl

/-- The weights as the region reads them. -/
theorem v38_eq : V m c main_v38 = shapeCast S64x1 (Host.divf (F := Ideal) (broadcastInDim S64 ![] bcast_S_S64 (constant (F := Ideal) S_ .f32 0x3F800000#32))
    (mulf (mulf (broadcastInDim S64 ![] bcast_S_S64 (constant (F := Ideal) S_ .f32 0x42800000#32)) (m ((c : Thread nD τ).loc main_arg7)))
      (m ((c : Thread nD τ).loc main_arg7)))) shapeCasts_S64_S64x1 := by
  unfold V V0
  simp only [List.flatten_cons, List.flatten_nil, List.append_nil, hostOps0]
  after_results_simp <;> rfl

/-- The offsets as the region reads them. -/
theorem v39_eq : V m c main_v39 = shapeCast S64x1 (m ((c : Thread nD τ).loc main_arg8)) shapeCasts_S64_S64x1 := by
  unfold V V0
  simp only [List.flatten_cons, List.flatten_nil, List.append_nil, hostOps0]
  after_results_simp <;> rfl

end

end Cert.KernelIdeal.Entry

end
-- ==== Proof.Table.lean ====
/-
  THE TABLE AND THE ONE-HOT. The table at an element (`placed_apply`: three groups of rows over zeros), the right factor at a
  row (`factor_eq`: the duration at row 0, one at rows `8 + m` and `40 + s`, zero elsewhere), and with them the product
  of the two as the sum of the three looked-up rows (`feat_table`). `cell_table` is what the body computes on that table.
-/
module

public import proofs.«01_k».proof.Proof.Entry
public import proofs.«01_k».proof.Proof.Body
public import Idealize.ShloMosaic.Lib.Routing.OpsPair
public import Idealize.ShloMosaic.Lib.Routing.OpsSet
public import Idealize.ShloMosaic.Lib.IdealHost
public import Idealize.ShloMosaic.Lib.Affine

@[expose] public section

noncomputable section

namespace Cert.KernelIdeal.Entry

open Cert.KernelIdeal Cert.KernelIdeal.Gen Idealize.ShloMosaic Idealize.ShloMosaic.TcCoe
open Cert.KernelIdeal.Body (factor feat cell eps)
open scoped BigOperators

/-! ## Three constants -/

/-- The pattern of one sixty-fourth. -/
theorem ofBits_inv64 : Ideal.ofBits FTy.f32 0x3C800000#32 = ((1 / 64 : ℝ) : EReal) := by
  simp [Ideal.ofBits, Ideal.ieee, -EReal.coe_mul]
  norm_num

/-- The pattern of sixty-four. -/
theorem ofBits_64 : Ideal.ofBits FTy.f32 0x42800000#32 = ((64 : ℝ) : EReal) := by
  simp [Ideal.ofBits, Ideal.ieee, -EReal.coe_mul]
  norm_num

/-- The number added to the variance is a positive real. -/
theorem eps_pos : ∃ ε : ℝ, 0 < ε ∧ eps = ((ε : ℝ) : EReal) := by
  refine ⟨(2748779 / 274877906944 : ℝ), by norm_num, ?_⟩
  unfold eps
  simp [Ideal.ofBits, Ideal.ieee, -EReal.coe_mul]
  norm_num

/-! ## The table at an element -/

section
set_option maxRecDepth 16384
set_option maxHeartbeats 4000000

/-- The centring matrix at an entry. -/
theorem centreMat_apply (γ : FVec Ideal S64 .f32) (i j : Fin 64) : centreMat γ (ix2 i j) = Norm.centre (fun k => γ (ix1 k)) i j := by
  pointwise [centreMat]
  unfold Norm.centre
  rw [ofBits_inv64]
  congr 2
  have h : IntOp.addi (BitVec.ofNat 32 i.val) 0#32 = BitVec.ofNat 32 i.val := by simp [IntOp.addi]
  rw [h, WordCmp.cmpi_eq_eq]
  by_cases e : i = j
  · subst e
    simp only [decide_true, if_true]
    show (((BitVec.ofBool true).toNat : ℝ) : EReal) = _
    simp
  · have hne : BitVec.ofNat 32 i.val ≠ BitVec.ofNat 32 j.val := by
      intro q
      have q' := congrArg BitVec.toNat q
      simp only [BitVec.toNat_ofNat] at q'
      have hi := i.isLt
      have hj := j.isLt
      rw [Nat.mod_eq_of_lt (by omega), Nat.mod_eq_of_lt (by omega)] at q'
      exact e (Fin.ext q')
    simp only [hne, decide_false, if_neg e]
    show (((BitVec.ofBool false).toNat : ℝ) : EReal) = _
    simp

/-- A row of the table's product with the centring matrix, at each of the three heights. -/
theorem dot1_apply (γ : FVec Ideal S64 .f32) (W : FVec Ideal S1x64 .f32) (i : Fin 1) (j : Fin 64) :
    Host.dotGeneral (F := Ideal) dot_S1x64_S64x64_S1x64_1_0_0_1_n_n none W (centreMat γ) (ix2 i j)
      = Norm.fold (fun k => γ (ix1 k)) (fun k => W (ix2 i k)) j := by
  pointwise []
  unfold Norm.fold
  exact Finset.sum_congr rfl fun k _ => by rw [centreMat_apply]

/-- The machine table times the centring matrix, at an element. -/
theorem dot21_apply (γ : FVec Ideal S64 .f32) (W : FVec Ideal S21x64 .f32) (i : Fin 21) (j : Fin 64) :
    Host.dotGeneral (F := Ideal) dot_S21x64_S64x64_S21x64_1_0_0_1_n_n none W (centreMat γ) (ix2 i j)
      = Norm.fold (fun k => γ (ix1 k)) (fun k => W (ix2 i k)) j := by
  pointwise []
  unfold Norm.fold
  exact Finset.sum_congr rfl fun k _ => by rw [centreMat_apply]

/-- The status table times the centring matrix, at an element. -/
theorem dot4_apply (γ : FVec Ideal S64 .f32) (W : FVec Ideal S4x64 .f32) (i : Fin 4) (j : Fin 64) :
    Host.dotGeneral (F := Ideal) dot_S4x64_S64x64_S4x64_1_0_0_1_n_n none W (centreMat γ) (ix2 i j)
      = Norm.fold (fun k => γ (ix1 k)) (fun k => W (ix2 i k)) j := by
  pointwise []
  unfold Norm.fold
  exact Finset.sum_congr rfl fun k _ => by rw [centreMat_apply]

/-- The status table with the bias at an entry. -/
theorem bias_apply (st : FVec Ideal S4x64 .f32) (b : FVec Ideal S64 .f32) (i : Fin 4) (j : Fin 64) :
    addf st (broadcastInDim S4x64 ![0, 1] bcast_S1x64_S4x64_0_1 (broadcastInDim S1x64 ![1] bcast_S64_S1x64_1 b)) (ix2 i j)
      = st (ix2 i j) + b (ix1 j) := by
  pointwise []

/-- The weights at an entry. -/
theorem weight_apply (γ : FVec Ideal S64 .f32) (k : Fin 64) :
    shapeCast S64x1 (Host.divf (F := Ideal) (broadcastInDim S64 ![] bcast_S_S64 (constant (F := Ideal) S_ .f32 0x3F800000#32))
      (mulf (mulf (broadcastInDim S64 ![] bcast_S_S64 (constant (F := Ideal) S_ .f32 0x42800000#32)) γ) γ)) shapeCasts_S64_S64x1 (ix2 k 0)
      = Norm.weight (fun k => γ (ix1 k)) k := by
  pointwise []
  unfold Norm.weight
  rw [ofBits_64]
  rfl

/-- A column array at an entry. -/
theorem col_apply (γ : FVec Ideal S64 .f32) (k : Fin 64) : shapeCast S64x1 γ shapeCasts_S64_S64x1 (ix2 k 0) = γ (ix1 k) := by
  pointwise []

/-- The ids, laid out sequence first, at an entry. -/
theorem ids_apply (x : Vec Ideal S4096x200 .i32) (s : Fin 200) (a : Fin 4096) :
    shapeCast S200x1x4096 (transpose S200x4096 [1, 0] x transposes_S4096x200_S200x4096_1_0) shapeCasts_S200x4096_S200x1x4096 (ix3 s 0 a) = x (ix2 a s) := by
  pointwise []

/-- The durations, laid out sequence first, at an entry. -/
theorem durs_apply (x : FVec Ideal S4096x200x1 .f32) (s : Fin 200) (a : Fin 4096) :
    shapeCast S200x1x4096 (transpose S200x4096 [1, 0] (shapeCast S4096x200 x shapeCasts_S4096x200x1_S4096x200) transposes_S4096x200_S200x4096_1_0)
      shapeCasts_S200x4096_S200x1x4096 (ix3 s 0 a) = x (ix3 a s 0) := by
  pointwise []

/-- The table, transposed and converted, at an entry. -/
theorem tab_apply (x : FVec Ideal S48x64 .f32) (f : Fin 64) (k : Fin 48) :
    truncf (F := Ideal) .bf16 (transpose S64x48 [1, 0] x transposes_S48x64_S64x48_1_0) bitsLt_bf16_f32 (ix2 f k) = x (ix2 k f) := by
  pointwise []

/-! ## A placement of rows -/

/-- Where an entry of 1 placed row lands: row and column moved by the index word. -/
theorem lands1 (w : BitVec 32) (i : Fin 1) (j : Fin 64) (r : Fin 48) (f : Fin 64) :
    scatter_S48x64_S1_S1x64_01_n_0_0.resultIdx? (ix2 i j) (at_ w) = some (ix2 r f) ↔ w.toInt + (i.val : Int) = (r.val : Int) ∧ j = f := by
  rw [Routing.resultIdx?_eq_some]
  constructor
  · intro h
    refine ⟨h 0, Fin.ext ?_⟩
    have h1 : (0 : Int) + (j.val : Int) = (f.val : Int) := h 1
    omega
  · rintro ⟨h0, rfl⟩ a
    match a with
    | ⟨0, _⟩ => exact h0
    | ⟨1, _⟩ => exact Int.zero_add _

/-- The 1 placed row read back where one of them lies. -/
theorem place1_hit (x : FVec Ideal S48x64 .f32) (w : BitVec 32) (u : FVec Ideal S1x64 .f32) (i : Fin 1) (r : Fin 48) (f : Fin 64)
    (h : w.toInt + (i.val : Int) = (r.val : Int)) :
    Host.scatter scatter_S48x64_S1_S1x64_01_n_0_0 (fun _ b => b) x (at_ w) u (ix2 r f) = u (ix2 i f) := by
  refine Routing.scatter_set_hit _ _ _ _ _ _ (fun k hk => ?_) (ix2 i f) ((lands1 w i f r f).2 ⟨h, rfl⟩)
  idx_vars k
  obtain ⟨h0, rfl⟩ := (lands1 w _ _ r f).1 hk
  congr 1
  refine congrArg (fun q => ix2 q _) (Fin.ext ?_)
  omega

/-- Elsewhere the operand is unchanged. -/
theorem place1_miss (x : FVec Ideal S48x64 .f32) (w : BitVec 32) (u : FVec Ideal S1x64 .f32) (r : Fin 48) (f : Fin 64)
    (h : ∀ i : Fin 1, w.toInt + (i.val : Int) ≠ (r.val : Int)) :
    Host.scatter scatter_S48x64_S1_S1x64_01_n_0_0 (fun _ b => b) x (at_ w) u (ix2 r f) = x (ix2 r f) := by
  refine Routing.scatter_set_miss _ _ _ _ _ (fun k hk => ?_)
  idx_vars k
  exact h _ ((lands1 w _ _ r f).1 hk).1

/-- Where an entry of 21 placed rows lands: row and column moved by the index word. -/
theorem lands21 (w : BitVec 32) (i : Fin 21) (j : Fin 64) (r : Fin 48) (f : Fin 64) :
    scatter_S48x64_S1_S21x64_01_n_0_0.resultIdx? (ix2 i j) (at_ w) = some (ix2 r f) ↔ w.toInt + (i.val : Int) = (r.val : Int) ∧ j = f := by
  rw [Routing.resultIdx?_eq_some]
  constructor
  · intro h
    refine ⟨h 0, Fin.ext ?_⟩
    have h1 : (0 : Int) + (j.val : Int) = (f.val : Int) := h 1
    omega
  · rintro ⟨h0, rfl⟩ a
    match a with
    | ⟨0, _⟩ => exact h0
    | ⟨1, _⟩ => exact Int.zero_add _

/-- The 21 placed rows read back where one of them lies. -/
theorem place21_hit (x : FVec Ideal S48x64 .f32) (w : BitVec 32) (u : FVec Ideal S21x64 .f32) (i : Fin 21) (r : Fin 48) (f : Fin 64)
    (h : w.toInt + (i.val : Int) = (r.val : Int)) :
    Host.scatter scatter_S48x64_S1_S21x64_01_n_0_0 (fun _ b => b) x (at_ w) u (ix2 r f) = u (ix2 i f) := by
  refine Routing.scatter_set_hit _ _ _ _ _ _ (fun k hk => ?_) (ix2 i f) ((lands21 w i f r f).2 ⟨h, rfl⟩)
  idx_vars k
  obtain ⟨h0, rfl⟩ := (lands21 w _ _ r f).1 hk
  congr 1
  refine congrArg (fun q => ix2 q _) (Fin.ext ?_)
  omega

/-- Elsewhere the operand is unchanged. -/
theorem place21_miss (x : FVec Ideal S48x64 .f32) (w : BitVec 32) (u : FVec Ideal S21x64 .f32) (r : Fin 48) (f : Fin 64)
    (h : ∀ i : Fin 21, w.toInt + (i.val : Int) ≠ (r.val : Int)) :
    Host.scatter scatter_S48x64_S1_S21x64_01_n_0_0 (fun _ b => b) x (at_ w) u (ix2 r f) = x (ix2 r f) := by
  refine Routing.scatter_set_miss _ _ _ _ _ (fun k hk => ?_)
  idx_vars k
  exact h _ ((lands21 w _ _ r f).1 hk).1

/-- Where an entry of 4 placed rows lands: row and column moved by the index word. -/
theorem lands4 (w : BitVec 32) (i : Fin 4) (j : Fin 64) (r : Fin 48) (f : Fin 64) :
    scatter_S48x64_S1_S4x64_01_n_0_0.resultIdx? (ix2 i j) (at_ w) = some (ix2 r f) ↔ w.toInt + (i.val : Int) = (r.val : Int) ∧ j = f := by
  rw [Routing.resultIdx?_eq_some]
  constructor
  · intro h
    refine ⟨h 0, Fin.ext ?_⟩
    have h1 : (0 : Int) + (j.val : Int) = (f.val : Int) := h 1
    omega
  · rintro ⟨h0, rfl⟩ a
    match a with
    | ⟨0, _⟩ => exact h0
    | ⟨1, _⟩ => exact Int.zero_add _

/-- The 4 placed rows read back where one of them lies. -/
theorem place4_hit (x : FVec Ideal S48x64 .f32) (w : BitVec 32) (u : FVec Ideal S4x64 .f32) (i : Fin 4) (r : Fin 48) (f : Fin 64)
    (h : w.toInt + (i.val : Int) = (r.val : Int)) :
    Host.scatter scatter_S48x64_S1_S4x64_01_n_0_0 (fun _ b => b) x (at_ w) u (ix2 r f) = u (ix2 i f) := by
  refine Routing.scatter_set_hit _ _ _ _ _ _ (fun k hk => ?_) (ix2 i f) ((lands4 w i f r f).2 ⟨h, rfl⟩)
  idx_vars k
  obtain ⟨h0, rfl⟩ := (lands4 w _ _ r f).1 hk
  congr 1
  refine congrArg (fun q => ix2 q _) (Fin.ext ?_)
  omega

/-- Elsewhere the operand is unchanged. -/
theorem place4_miss (x : FVec Ideal S48x64 .f32) (w : BitVec 32) (u : FVec Ideal S4x64 .f32) (r : Fin 48) (f : Fin 64)
    (h : ∀ i : Fin 4, w.toInt + (i.val : Int) ≠ (r.val : Int)) :
    Host.scatter scatter_S48x64_S1_S4x64_01_n_0_0 (fun _ b => b) x (at_ w) u (ix2 r f) = x (ix2 r f) := by
  refine Routing.scatter_set_miss _ _ _ _ _ (fun k hk => ?_)
  idx_vars k
  exact h _ ((lands4 w _ _ r f).1 hk).1

/-- The zeros under the placements. -/
theorem zeros_apply (i : S48x64.Idx) : broadcastInDim S48x64 ![] bcast_S_S48x64 (constant (F := Ideal) S_ .f32 0x00000000#32) i = (0 : EReal) := by
  idx_vars i
  pointwise []

section
variable (u : FVec Ideal S1x64 .f32) (v : FVec Ideal S21x64 .f32) (w : FVec Ideal S4x64 .f32)

/-- Row 0 of the table is the single row. -/
theorem placed_zero (r : Fin 48) (hr : r.val = 0) (f : Fin 64) : placed u v w (ix2 r f) = u (ix2 0 f) := by
  unfold placed
  rw [place4_miss _ _ _ _ _ (fun i => by show (40 : Int) + _ ≠ _; omega), place21_miss _ _ _ _ _ (fun i => by show (8 : Int) + _ ≠ _; omega),
    place1_hit _ _ _ 0 r f (by show (0 : Int) + ((0 : Nat) : Int) = _; omega)]

/-- Row `8 + i` is row `i` of the 21. -/
theorem placed_machine (r : Fin 48) (i : Fin 21) (hr : r.val = 8 + i.val) (f : Fin 64) : placed u v w (ix2 r f) = v (ix2 i f) := by
  unfold placed
  rw [place4_miss _ _ _ _ _ (fun k => by show (40 : Int) + _ ≠ _; omega), place21_hit _ _ _ i r f (by show (8 : Int) + _ = _; omega)]

/-- Row `40 + i` is row `i` of the 4. -/
theorem placed_status (r : Fin 48) (i : Fin 4) (hr : r.val = 40 + i.val) (f : Fin 64) : placed u v w (ix2 r f) = w (ix2 i f) := by
  unfold placed
  rw [place4_hit _ _ _ i r f (by show (40 : Int) + _ = _; omega)]

/-- Rows 1 to 7 are zero. -/
theorem placed_gap (r : Fin 48) (h1 : 1 ≤ r.val) (h8 : r.val < 8) (f : Fin 64) : placed u v w (ix2 r f) = 0 := by
  unfold placed
  rw [place4_miss _ _ _ _ _ (fun i => by show (40 : Int) + _ ≠ _; omega), place21_miss _ _ _ _ _ (fun i => by show (8 : Int) + _ ≠ _; omega),
    place1_miss _ _ _ _ _ (fun i => by show (0 : Int) + _ ≠ _; have := i.isLt; omega), zeros_apply]

end

/-! ## The right factor at a row -/

/-- One entry of the two-hot part: one at either id, zero elsewhere. -/
theorem hot (k : Nat) (hk : k < 40) (m s : BitVec 32) (hs : s.toNat ≤ 3) :
    FloatOps.sitofp (F := Ideal) FTy.f32 (BitVec.setWidth 32 (IntOp.ori (IntOp.cmpi .eq (BitVec.ofNat 32 k) m)
      (IntOp.cmpi .eq (BitVec.ofNat 32 k) (IntOp.addi s 32#32)))) = (if k = m.toNat ∨ k = 32 + s.toNat then (1 : EReal) else 0) := by
  have e1 : (BitVec.ofNat 32 k).toNat = k := by rw [BitVec.toNat_ofNat]; exact Nat.mod_eq_of_lt (by omega)
  have e2 : (IntOp.addi s 32#32).toNat = 32 + s.toNat := by
    show (s + 32#32).toNat = _
    rw [BitVec.toNat_add]
    show (s.toNat + 32) % 2 ^ 32 = _
    rw [Nat.mod_eq_of_lt (by omega)]
    omega
  rw [WordCmp.cmpi_eq_eq_toNat, WordCmp.cmpi_eq_eq_toNat, e1, e2]
  show (((BitVec.setWidth 32 (BitVec.ofBool _ ||| BitVec.ofBool _)).toInt : ℝ) : EReal) = _
  have hb : ∀ a b : Bool, (BitVec.setWidth 32 (BitVec.ofBool a ||| BitVec.ofBool b)).toInt = if a || b then 1 else 0 := by decide
  rw [hb]
  by_cases h : k = m.toNat ∨ k = 32 + s.toNat
  · rw [if_pos h, if_pos (by simpa using h)]; norm_num
  · rw [if_neg h, if_neg (by simpa using h)]; norm_num

section
variable (W : FVec Ideal S1x64 .f32) (b : FVec Ideal S64 .f32) (mt : FVec Ideal S21x64 .f32) (st : FVec Ideal S4x64 .f32) (γ : FVec Ideal S64 .f32)

/-- THE TABLE TIMES THE FACTOR: the duration's row scaled, plus the machine's row, plus the status's row. -/
theorem feat_table (m s : BitVec 32) (hm : m.toNat < 21) (hs : s.toNat < 4) (d : EReal) (f : Fin 64) :
    feat (fun f k => table W b mt st γ (ix2 k f)) m s d f
      = Norm.comb (fun k => γ (ix1 k)) d (fun k => W (ix2 0 k)) (fun k => b (ix1 k)) (fun k => mt (ix2 ⟨m.toNat, hm⟩ k)) (fun k => st (ix2 ⟨s.toNat, hs⟩ k)) f := by
  set A := Norm.fold (fun k => γ (ix1 k)) (fun k => W (ix2 0 k)) f with hA
  set B := Norm.fold (fun k => γ (ix1 k)) (fun k => mt (ix2 ⟨m.toNat, hm⟩ k)) f with hB
  set C := Norm.fold (fun k => γ (ix1 k)) (fun k => st (ix2 ⟨s.toNat, hs⟩ k) + b (ix1 k)) f with hC
  have term : ∀ k : Fin 48, table W b mt st γ (ix2 k f) * factor m s d k
      = ((if k = (⟨0, by omega⟩ : Fin 48) then A * d else 0) + (if k = (⟨8 + m.toNat, by omega⟩ : Fin 48) then B else 0))
        + (if k = (⟨40 + s.toNat, by omega⟩ : Fin 48) then C else 0) := by
    intro k
    have hk := k.isLt
    unfold factor
    by_cases h0 : k.val = 0
    · rw [if_pos (by omega), if_pos (Fin.ext h0), if_neg (fun q => by have := congrArg Fin.val q; simp only at this; omega),
        if_neg (fun q => by have := congrArg Fin.val q; simp only at this; omega), add_zero, add_zero]
      unfold table
      rw [placed_zero _ _ _ k h0, dot1_apply]
    · rw [if_neg (by omega), if_neg (c := k = (⟨0, _⟩ : Fin 48)) (fun q => h0 (congrArg Fin.val q)), zero_add]
      by_cases h8 : k.val < 8
      · rw [if_pos (by omega), mul_zero, if_neg (fun q => by have := congrArg Fin.val q; simp only at this; omega),
          if_neg (fun q => by have := congrArg Fin.val q; simp only at this; omega), add_zero]
      · rw [if_neg (by omega), hot _ (by omega) m s (by omega)]
        by_cases h1 : k.val = 8 + m.toNat
        · rw [if_pos (Or.inl (by omega)), mul_one, if_pos (Fin.ext h1), if_neg (fun q => by have := congrArg Fin.val q; simp only at this; omega), add_zero]
          unfold table
          rw [placed_machine _ _ _ k ⟨m.toNat, hm⟩ h1, dot21_apply]
        · rw [if_neg (c := k = (⟨8 + m.toNat, _⟩ : Fin 48)) (fun q => h1 (congrArg Fin.val q)), zero_add]
          by_cases h2 : k.val = 40 + s.toNat
          · rw [if_pos (Or.inr (by omega)), mul_one, if_pos (Fin.ext h2)]
            unfold table
            rw [placed_status _ _ _ k ⟨s.toNat, hs⟩ h2, dot4_apply]
            exact congrArg (fun x => Norm.fold (fun k => γ (ix1 k)) x f) (funext fun j => bias_apply st b _ j)
          · rw [if_neg (by omega), mul_zero, if_neg (fun q => h2 (congrArg Fin.val q))]
  unfold feat
  rw [Finset.sum_congr rfl fun k _ => term k, Finset.sum_add_distrib, Finset.sum_add_distrib, Finset.sum_ite_eq', Finset.sum_ite_eq', Finset.sum_ite_eq',
    if_pos (Finset.mem_univ _), if_pos (Finset.mem_univ _), if_pos (Finset.mem_univ _)]
  rfl

/-- WHAT THE BODY COMPUTES ON THAT TABLE, on ids in range: the folded layer normalisation. -/
theorem cell_table (β : Fin 64 → EReal) (m s : BitVec 32) (hm : m.toNat < 21) (hs : s.toNat < 4) (d : EReal) (f : Fin 64) :
    cell (fun f k => table W b mt st γ (ix2 k f)) (fun k => Norm.weight (fun k => γ (ix1 k)) k) β m s d f
      = Norm.folded eps (Norm.comb (fun k => γ (ix1 k)) d (fun k => W (ix2 0 k)) (fun k => b (ix1 k)) (fun k => mt (ix2 ⟨m.toNat, hm⟩ k))
          (fun k => st (ix2 ⟨s.toNat, hs⟩ k))) (fun k => γ (ix1 k)) β f := by
  unfold cell Norm.folded
  simp only [feat_table W b mt st γ m s hm hs d]

end

end

end Cert.KernelIdeal.Entry

end
-- ==== Proof.Array.lean ====
/-
  THE KERNEL'S RESULT ARRAY. A grid point's input blocks at an element (`ids_block` and its siblings), what the point writes
  back (`flushed_eq`), the array the region leaves as one function of the arrays it reads (`final`), its transpose after
  the region, and the whole run read at the result and the arguments (`run`).
-/
module

public import proofs.«01_k».proof.Proof.Table
public import Idealize.ShloMosaic.Lib.Pipeline.Value
public import Idealize.ShloMosaic.Lib.Quiescent

@[expose] public section

noncomputable section

namespace Cert.KernelIdeal.Array

open Cert.KernelIdeal Cert.KernelIdeal.Gen Idealize.ShloMosaic Idealize.ShloMosaic.TcCoe Idealize.SL.Sem
open Cert.KernelIdeal.Body (cell)

variable (m : (ℓ : Loc nD τ sig) → Buf (Elt Ideal) ℓ) (ρ : Dev nD → PrngReg) (c : Dev nD)

/-- Every window's block offset at a grid point: the point itself along the first axis of the four moving windows, zero elsewhere. -/
theorem offsets : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0 ∧ win0_6.index t 2 = 0) := by
  decide +kernel

/-- Position `4t + p` of the 200. -/
def pos (t : Fin grid0.N) (p : Fin 4) : Fin 200 := ⟨t.val * 4 + p.val, by
  have h : grid0.N = 50 := by decide +kernel
  have := t.isLt
  have := p.isLt
  omega⟩

/-- The machine ids' block at an element. -/
theorem block0 (t : Fin grid0.N) (p : Fin 4) (l : Fin 4096) : iblk m c 0 t (ix3 p 0 l) = V m c main_v1 (ix3 (pos t p) 0 l) := by
  show V m c main_v1 (((cfg0.win 0).blk t).view.emb (ix3 p 0 l)) = _
  obtain ⟨⟨h0, h1, h2⟩, -⟩ := offsets t
  congr 1
  funext a
  match a with
  | ⟨0, _⟩ => exact Fin.ext (show win0_0.index t 0 * 4 + 1 * p.val = t.val * 4 + p.val by rw [h0]; omega)
  | ⟨1, _⟩ => exact Fin.ext (show win0_0.index t 1 * 1 + 1 * 0 = 0 by rw [h1])
  | ⟨2, _⟩ => exact Fin.ext (show win0_0.index t 2 * 4096 + 1 * l.val = l.val by rw [h2]; omega)

/-- The status ids' block at an element. -/
theorem block1 (t : Fin grid0.N) (p : Fin 4) (l : Fin 4096) : iblk m c 1 t (ix3 p 0 l) = V m c main_v3 (ix3 (pos t p) 0 l) := by
  show V m c main_v3 (((cfg0.win 1).blk t).view.emb (ix3 p 0 l)) = _
  obtain ⟨-, ⟨h0, h1, h2⟩, -⟩ := offsets t
  congr 1
  funext a
  match a with
  | ⟨0, _⟩ => exact Fin.ext (show win0_1.index t 0 * 4 + 1 * p.val = t.val * 4 + p.val by rw [h0]; omega)
  | ⟨1, _⟩ => exact Fin.ext (show win0_1.index t 1 * 1 + 1 * 0 = 0 by rw [h1])
  | ⟨2, _⟩ => exact Fin.ext (show win0_1.index t 2 * 4096 + 1 * l.val = l.val by rw [h2]; omega)

/-- The durations' block at an element. -/
theorem block2 (t : Fin grid0.N) (p : Fin 4) (l : Fin 4096) : iblk m c 2 t (ix3 p 0 l) = V m c main_v6 (ix3 (pos t p) 0 l) := by
  show V m c main_v6 (((cfg0.win 2).blk t).view.emb (ix3 p 0 l)) = _
  obtain ⟨-, -, ⟨h0, h1, h2⟩, -⟩ := offsets t
  congr 1
  funext a
  match a with
  | ⟨0, _⟩ => exact Fin.ext (show win0_2.index t 0 * 4 + 1 * p.val = t.val * 4 + p.val by rw [h0]; omega)
  | ⟨1, _⟩ => exact Fin.ext (show win0_2.index t 1 * 1 + 1 * 0 = 0 by rw [h1])
  | ⟨2, _⟩ => exact Fin.ext (show win0_2.index t 2 * 4096 + 1 * l.val = l.val by rw [h2]; omega)

/-- The table's block is the whole array. -/
theorem block3 (t : Fin grid0.N) (f : Fin 64) (k : Fin 48) : iblk m c 3 t (ix2 f k) = V m c main_v32 (ix2 f k) := by
  show V m c main_v32 (((cfg0.win 3).blk t).view.emb (ix2 f k)) = _
  obtain ⟨-, -, -, ⟨h0, h1⟩, -⟩ := offsets t
  congr 1
  funext a
  match a with
  | ⟨0, _⟩ => exact Fin.ext (show win0_3.index t 0 * 64 + 1 * f.val = f.val by rw [h0]; omega)
  | ⟨1, _⟩ => exact Fin.ext (show win0_3.index t 1 * 48 + 1 * k.val = k.val by rw [h1]; omega)

/-- The weights' block is the whole array. -/
theorem block4 (t : Fin grid0.N) (f : Fin 64) (k : Fin 1) : iblk m c 4 t (ix2 f k) = V m c main_v38 (ix2 f k) := by
  show V m c main_v38 (((cfg0.win 4).blk t).view.emb (ix2 f k)) = _
  obtain ⟨-, -, -, -, ⟨h0, h1⟩, -⟩ := offsets t
  congr 1
  funext a
  match a with
  | ⟨0, _⟩ => exact Fin.ext (show win0_4.index t 0 * 64 + 1 * f.val = f.val by rw [h0]; omega)
  | ⟨1, _⟩ => exact Fin.ext (show win0_4.index t 1 * 1 + 1 * k.val = k.val by rw [h1]; omega)

/-- The offsets' block is the whole array. -/
theorem block5 (t : Fin grid0.N) (f : Fin 64) (k : Fin 1) : iblk m c 5 t (ix2 f k) = V m c main_v39 (ix2 f k) := by
  show V m c main_v39 (((cfg0.win 5).blk t).view.emb (ix2 f k)) = _
  obtain ⟨-, -, -, -, -, ⟨h0, h1⟩, -⟩ := offsets t
  congr 1
  funext a
  match a with
  | ⟨0, _⟩ => exact Fin.ext (show win0_5.index t 0 * 64 + 1 * f.val = f.val by rw [h0]; omega)
  | ⟨1, _⟩ => exact Fin.ext (show win0_5.index t 1 * 1 + 1 * k.val = k.val by rw [h1]; omega)

/-- The array the region leaves, as one function of the arrays it reads. -/
def left (i : S200x64x4096.Idx) : EReal :=
  cell (fun f k => V m c main_v32 (ix2 f k)) (fun k => V m c main_v38 (ix2 k 0)) (fun k => V m c main_v39 (ix2 k 0))
    (V m c main_v1 (ix3 (i 0) 0 (i 2))) (V m c main_v3 (ix3 (i 0) 0 (i 2))) (V m c main_v6 (ix3 (i 0) 0 (i 2))) (i 1)

/-- Where the result's block at a grid point lies in the array. -/
theorem emb6 (t : Fin grid0.N) (p : Fin 4) (f : Fin 64) (l : Fin 4096) :
    ((cfg0.win 6).blk t).view.emb (ix3 p f l) = (ix3 (pos t p) f l : S200x64x4096.Idx) := by
  obtain ⟨-, -, -, -, -, -, h0, h1, h2⟩ := offsets t
  funext a
  match a with
  | ⟨0, _⟩ => exact Fin.ext (show win0_6.index t 0 * 4 + 1 * p.val = t.val * 4 + p.val by rw [h0]; omega)
  | ⟨1, _⟩ => exact Fin.ext (show win0_6.index t 1 * 64 + 1 * f.val = f.val by rw [h1]; omega)
  | ⟨2, _⟩ => exact Fin.ext (show win0_6.index t 2 * 4096 + 1 * l.val = l.val by rw [h2]; omega)

/-- The body's output block at a grid point, at an element, is `left` at that element's place in the array. -/
theorem out_at (t : Fin grid0.N) (y : S4x64x4096.Idx) :
    out0_6 (iblk m c 0 t) (iblk m c 1 t) (iblk m c 2 t) (iblk m c 3 t) (iblk m c 4 t) (iblk m c 5 t) y
      = left m c (((cfg0.win 6).blk t).view.emb y) := by
  idx_vars y
  rw [Body.out_apply, emb6]
  unfold left
  simp only [block0, block1, block2, block3, block4, block5]
  rfl

/-- WHAT A GRID POINT WRITES BACK is its block of `left`. -/
theorem flushed_eq (t : Fin cfg0.N) : (dats m 0 c).flushed 6 t = ((cfg0.win 6).blk t).view.read (Elt Ideal) (left m c) := by
  show (cfg0.win 6).cut (grid0.coords t) ((dats m 0 c).after 6 t) = _
  rw [after0_6]
  exact funext fun y => out_at m c t y

/-- A point's block holds the elements at its four positions. -/
theorem mem6 (t : Fin grid0.N) (p : Fin 4) (f : Fin 64) (l : Fin 4096) :
    (ix3 (pos t p) f l : S200x64x4096.Idx) ∈ ((cfg0.win 6).blk t).view.set := by
  rw [← emb6]
  exact View.emb_mem_set _ _

/-- Every position is one of some point's four. -/
theorem pos_surj (a : Fin 200) : ∃ (t : Fin grid0.N) (p : Fin 4), pos t p = a := by
  have h : grid0.N = 50 := by decide +kernel
  have ha := a.isLt
  exact ⟨⟨a.val / 4, by omega⟩, ⟨a.val % 4, by omega⟩, Fin.ext (show a.val / 4 * 4 + a.val % 4 = a.val by omega)⟩

/-- Every element of the array is in some point's block. -/
theorem covered (i : S200x64x4096.Idx) : ∃ t : Fin cfg0.N, (cfg0.win 6).flush t = true ∧ i ∈ ((cfg0.win 6).blk t).view.set := by
  idx_vars i
  obtain ⟨t, p, rfl⟩ := pos_surj i0
  exact ⟨t, flush0_6 t, mem6 t p i1 i2⟩

/-- THE ARRAY AFTER THE REGION. -/
theorem final : (dats m 0 c).arrAt 6 cfg0.N = left m c :=
  (dats m 0 c).arrAt_eq_of_cover 6 (left m c) (fun t _ => flushed_eq m c t) covered

/-- The result: that array with the batch axis first. -/
def result : Buf (Elt Ideal) ((c : Thread nD τ).loc main_v41) :=
  transpose S4096x200x64 [2, 0, 1] (left m c : S200x64x4096.Idx → EReal) transposes_S200x64x4096_S4096x200x64_2_0_1

/-- What the operation after the region leaves in the result. -/
theorem tail_result : Pipeline.afterTail₀ cfgs (dats m) 0 (V0 m) [hostOps1] c main_v41 = result m c := by
  unfold Pipeline.afterTail₀
  simp only [List.flatten_cons, List.flatten_nil, List.append_nil, hostOps1]
  after_results_simp
  have h := Pipeline.withArrays_arr spec0 (by decide : ∀ w w', Pipeline.arrRef spec0 w = Pipeline.arrRef spec0 w' → w = w') c (V0 m c)
    (fun w => (dats m 0 c).arrAt w cfg0.N) 6
  exact congrArg (fun x : S200x64x4096.Idx → EReal => transpose S4096x200x64 [2, 0, 1] x transposes_S200x64x4096_S4096x200x64_2_0_1) (h.trans (final m c))

/-- THE RUN, read: the result array at `result`, the arguments unchanged. -/
theorem run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m ρ)
  have rest := fun (b : Ref sig .tc) hb => (h c).2 b hb
  exact ⟨(rest main_v41 (Pipeline.mem_restRefs_of main_v41 (by decide) (by decide))).trans (tail_result m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c),
    (rest main_arg4 (Pipeline.mem_restRefs_of main_arg4 (by decide) (by decide))).trans (W_main_arg4 m (dats m) c),
    (rest main_arg5 (Pipeline.mem_restRefs_of main_arg5 (by decide) (by decide))).trans (W_main_arg5 m (dats m) c),
    (rest main_arg6 (Pipeline.mem_restRefs_of main_arg6 (by decide) (by decide))).trans (W_main_arg6 m (dats m) c),
    (rest main_arg7 (Pipeline.mem_restRefs_of main_arg7 (by decide) (by decide))).trans (W_main_arg7 m (dats m) c),
    (rest main_arg8 (Pipeline.mem_restRefs_of main_arg8 (by decide) (by decide))).trans (W_main_arg8 m (dats m) c)⟩

/-! ## The result at an element -/

/-- THE KERNEL'S RESULT AT AN ELEMENT, for ids in range: the folded layer normalisation of that token's embedding. -/
theorem result_apply (a : Fin 4096) (s : Fin 200) (f : Fin 64)
    (hm : ((m ((c : Thread nD τ).loc main_arg1) : S4096x200.Idx → BitVec 32) (ix2 a s)).toNat < 21)
    (hs : ((m ((c : Thread nD τ).loc main_arg2) : S4096x200.Idx → BitVec 32) (ix2 a s)).toNat < 4) :
    (result m c : S4096x200x64.Idx → EReal) (ix3 a s f)
      = Norm.folded Body.eps (Norm.comb (fun k => (m ((c : Thread nD τ).loc main_arg7) : S64.Idx → EReal) (ix1 k))
          ((m ((c : Thread nD τ).loc main_arg0) : S4096x200x1.Idx → EReal) (ix3 a s 0))
          (fun k => (m ((c : Thread nD τ).loc main_arg3) : S1x64.Idx → EReal) (ix2 0 k))
          (fun k => (m ((c : Thread nD τ).loc main_arg4) : S64.Idx → EReal) (ix1 k))
          (fun k => (m ((c : Thread nD τ).loc main_arg5) : S21x64.Idx → EReal) (ix2 ⟨_, hm⟩ k))
          (fun k => (m ((c : Thread nD τ).loc main_arg6) : S4x64.Idx → EReal) (ix2 ⟨_, hs⟩ k)))
          (fun k => (m ((c : Thread nD τ).loc main_arg7) : S64.Idx → EReal) (ix1 k))
          (fun k => (m ((c : Thread nD τ).loc main_arg8) : S64.Idx → EReal) (ix1 k)) f := by
  have e : (result m c : S4096x200x64.Idx → EReal) (ix3 a s f) = left m c (ix3 s f a) := by
    unfold result
    pointwise []
  rw [e]
  have h1 : V m c main_v1 (ix3 s 0 a) = m ((c : Thread nD τ).loc main_arg1) (ix2 a s) := (congrFun (Entry.v1_eq m c) _).trans (Entry.ids_apply _ s a)
  have h3 : V m c main_v3 (ix3 s 0 a) = m ((c : Thread nD τ).loc main_arg2) (ix2 a s) := (congrFun (Entry.v3_eq m c) _).trans (Entry.ids_apply _ s a)
  have h6 : V m c main_v6 (ix3 s 0 a) = m ((c : Thread nD τ).loc main_arg0) (ix3 a s 0) := (congrFun (Entry.v6_eq m c) _).trans (Entry.durs_apply _ s a)
  have h32 : (fun (f : Fin 64) (k : Fin 48) => V m c main_v32 (ix2 f k)) = fun f k => Entry.table (m ((c : Thread nD τ).loc main_arg3)) (m ((c : Thread nD τ).loc main_arg4))
      (m ((c : Thread nD τ).loc main_arg5)) (m ((c : Thread nD τ).loc main_arg6)) (m ((c : Thread nD τ).loc main_arg7)) (ix2 k f) :=
    funext fun f => funext fun k => (congrFun (Entry.v32_eq m c) _).trans (Entry.tab_apply _ f k)
  have h38 : (fun k : Fin 64 => V m c main_v38 (ix2 k 0)) = fun k => Norm.weight (fun k => (m ((c : Thread nD τ).loc main_arg7) : S64.Idx → EReal) (ix1 k)) k :=
    funext fun k => (congrFun (Entry.v38_eq m c) _).trans (Entry.weight_apply _ k)
  have h39 : (fun k : Fin 64 => V m c main_v39 (ix2 k 0)) = fun k => (m ((c : Thread nD τ).loc main_arg8) : S64.Idx → EReal) (ix1 k) :=
    funext fun k => (congrFun (Entry.v39_eq m c) _).trans (Entry.col_apply _ k)
  have key := Entry.cell_table (m ((c : Thread nD τ).loc main_arg3)) (m ((c : Thread nD τ).loc main_arg4))
      (m ((c : Thread nD τ).loc main_arg5)) (m ((c : Thread nD τ).loc main_arg6)) (m ((c : Thread nD τ).loc main_arg7))
      (fun k => (m ((c : Thread nD τ).loc main_arg8) : S64.Idx → EReal) (ix1 k)) _ _ hm hs
      ((m ((c : Thread nD τ).loc main_arg0) : S4096x200x1.Idx → EReal) (ix3 a s 0)) f
  refine Eq.trans ?_ key
  unfold left
  rw [← h32, ← h38, ← h39, ← h1, ← h3, ← h6]
  rfl

end Cert.KernelIdeal.Array

end
-- ==== Proof.Ref.lean ====
/-
  THE REFERENCE'S RESULT AT AN ELEMENT. Its term cut into the two row lookups, the embedding and the layer normalisation
  (`result_eq`), each read at an element; for ids in range the whole is `Norm.plain` of that token's embedding (`result_apply`).
-/
module

public import proofs.«01_k».proof.Defs
public import proofs.«01_k».proof.Proof.Gen.ReferenceIdeal.Run
public import proofs.«01_k».proof.Proof.Norm
public import Idealize.ShloMosaic.Lib.Pointwise
public import Idealize.ShloMosaic.Lib.Routing.OpsPair
public import Idealize.ShloMosaic.Lib.ReduceAll
public import Idealize.ShloMosaic.Lib.Affine

@[expose] public section

noncomputable section

namespace Cert.ReferenceIdeal.Row

open Cert.ReferenceIdeal Cert.ReferenceIdeal.Gen Idealize.ShloMosaic Idealize.ShloMosaic.TcCoe
open scoped BigOperators

/-- The ids with negative ones moved up by 21, the number of rows. -/
def wrap21 (x : Vec Ideal S4096x200 .i32) : Vec Ideal S4096x200 .i32 :=
  select (cmpi .slt x (broadcastInDim S4096x200 ![] bcast_S_S4096x200 (constantI S_ 32 0#32)))
    (addi x (broadcastInDim S4096x200 ![] bcast_S_S4096x200 (constantI S_ 32 21#32))) x

/-- The lookup of rows of a table of 21: the row where the id is in range, the not-a-number constant elsewhere. -/
def take21 (t : FVec Ideal S21x64 .f32) (x : Vec Ideal S4096x200 .i32) : FVec Ideal S4096x200x64 .f32 :=
  select (broadcastInDim S4096x200x64 ![0, 1] bcast_S4096x200_S4096x200x64_0_1
      (Host.reduce IntOp.andi (andi
        (cmpi .sge (broadcastInDim S4096x200x1 ![0, 1] bcast_S4096x200_S4096x200x1_0_1 (wrap21 x)) (broadcastInDim S4096x200x1 ![] bcast_S_S4096x200x1 (constantI S_ 32 0#32)))
        (cmpi .sle (broadcastInDim S4096x200x1 ![0, 1] bcast_S4096x200_S4096x200x1_0_1 (wrap21 x))
          (broadcastInDim S4096x200x1 ![0, 1, 2] bcast_S1x1x1_S4096x200x1_0_1_2 (broadcastInDim S1x1x1 ![2] bcast_S1_S1x1x1_2 (constantI S1 32 20#32)))))
        (constantI S_ 1 1#1) reducesTo_S4096x200x1_S4096x200_d2 h_S_))
    (Host.gather gather_S21x64_S4096x200x1_S4096x200x64_2_0_n_n_0_2_164 t (broadcastInDim S4096x200x1 ![0, 1] bcast_S4096x200_S4096x200x1_0_1 (wrap21 x)))
    (broadcastInDim S4096x200x64 ![] bcast_S_S4096x200x64 (constant (F := Ideal) S_ .f32 0x7FC00000#32))

/-- The ids with negative ones moved up by 4, the number of rows. -/
def wrap4 (x : Vec Ideal S4096x200 .i32) : Vec Ideal S4096x200 .i32 :=
  select (cmpi .slt x (broadcastInDim S4096x200 ![] bcast_S_S4096x200 (constantI S_ 32 0#32)))
    (addi x (broadcastInDim S4096x200 ![] bcast_S_S4096x200 (constantI S_ 32 4#32))) x

/-- The lookup of rows of a table of 4: the row where the id is in range, the not-a-number constant elsewhere. -/
def take4 (t : FVec Ideal S4x64 .f32) (x : Vec Ideal S4096x200 .i32) : FVec Ideal S4096x200x64 .f32 :=
  select (broadcastInDim S4096x200x64 ![0, 1] bcast_S4096x200_S4096x200x64_0_1
      (Host.reduce IntOp.andi (andi
        (cmpi .sge (broadcastInDim S4096x200x1 ![0, 1] bcast_S4096x200_S4096x200x1_0_1 (wrap4 x)) (broadcastInDim S4096x200x1 ![] bcast_S_S4096x200x1 (constantI S_ 32 0#32)))
        (cmpi .sle (broadcastInDim S4096x200x1 ![0, 1] bcast_S4096x200_S4096x200x1_0_1 (wrap4 x))
          (broadcastInDim S4096x200x1 ![0, 1, 2] bcast_S1x1x1_S4096x200x1_0_1_2 (broadcastInDim S1x1x1 ![2] bcast_S1_S1x1x1_2 (constantI S1 32 3#32)))))
        (constantI S_ 1 1#1) reducesTo_S4096x200x1_S4096x200_d2 h_S_))
    (Host.gather gather_S4x64_S4096x200x1_S4096x200x64_2_0_n_n_0_2_164 t (broadcastInDim S4096x200x1 ![0, 1] bcast_S4096x200_S4096x200x1_0_1 (wrap4 x)))
    (broadcastInDim S4096x200x64 ![] bcast_S_S4096x200x64 (constant (F := Ideal) S_ .f32 0x7FC00000#32))

/-- The embedding: the projected duration with the bias, plus the two looked-up rows. -/
def embed (d : FVec Ideal S4096x200x1 .f32) (x y : Vec Ideal S4096x200 .i32) (W : FVec Ideal S1x64 .f32) (b : FVec Ideal S64 .f32)
    (mt : FVec Ideal S21x64 .f32) (st : FVec Ideal S4x64 .f32) : FVec Ideal S4096x200x64 .f32 :=
  addf (addf (addf (Host.dotGeneral dot_S4096x200x1_S1x64_S4096x200x64_2_0_01_1_n_n none d W)
    (broadcastInDim S4096x200x64 ![0, 1, 2] bcast_S1x1x64_S4096x200x64_0_1_2 (broadcastInDim S1x1x64 ![2] bcast_S64_S1x1x64_2 b)))
    (take21 mt x)) (take4 st y)

/-- The mean over the features. -/
def meanOf (e : FVec Ideal S4096x200x64 .f32) : FVec Ideal S4096x200x1 .f32 :=
  Host.divf (broadcastInDim S4096x200x1 ![0, 1] bcast_S4096x200_S4096x200x1_0_1
      (Host.reduceAdd e (constant (F := Ideal) S_ .f32 0x00000000#32) reducesTo_S4096x200x64_S4096x200_d2 h_S_))
    (broadcastInDim S4096x200x1 ![] bcast_S_S4096x200x1 (constant (F := Ideal) S_ .f32 0x42800000#32))

/-- The features less their mean. -/
def centred (e : FVec Ideal S4096x200x64 .f32) : FVec Ideal S4096x200x64 .f32 :=
  subf e (broadcastInDim S4096x200x64 ![0, 1, 2] bcast_S4096x200x1_S4096x200x64_0_1_2 (meanOf e))

/-- The layer normalisation. -/
def layerNorm (e : FVec Ideal S4096x200x64 .f32) (γ β : FVec Ideal S64 .f32) : FVec Ideal S4096x200x64 .f32 :=
  addf (mulf (Host.divf (centred e)
    (broadcastInDim S4096x200x64 ![0, 1, 2] bcast_S4096x200x1_S4096x200x64_0_1_2
      (Host.sqrt (addf (meanOf (mulf (centred e) (centred e))) (broadcastInDim S4096x200x1 ![] bcast_S_S4096x200x1 (constant (F := Ideal) S_ .f32 0x3727C5AC#32))))))
    (broadcastInDim S4096x200x64 ![0, 1, 2] bcast_S1x1x64_S4096x200x64_0_1_2 (broadcastInDim S1x1x64 ![2] bcast_S64_S1x1x64_2 γ)))
    (broadcastInDim S4096x200x64 ![0, 1, 2] bcast_S1x1x64_S4096x200x64_0_1_2 (broadcastInDim S1x1x64 ![2] bcast_S64_S1x1x64_2 β))

set_option maxRecDepth 16384
set_option maxHeartbeats 4000000

/-- The reference's result is the layer normalisation of the embedding. -/
theorem result_eq (m : (ℓ : Loc nD τ sig) → Buf (Elt Ideal) ℓ) (c : Dev nD) :
    Value.res_out0 m c = layerNorm (embed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)))
      (m ((c : Thread nD τ).loc main_arg7)) (m ((c : Thread nD τ).loc main_arg8)) := rfl

/-! ## The layer normalisation at an element -/

/-- The pattern of sixty-four. -/
theorem ofBits_64 : Ideal.ofBits FTy.f32 0x42800000#32 = ((64 : ℝ) : EReal) := by
  simp [Ideal.ofBits, Ideal.ieee, -EReal.coe_mul]
  norm_num

/-- The mean at an element. -/
theorem meanOf_apply (e : FVec Ideal S4096x200x64 .f32) (a : Fin 4096) (s : Fin 200) (z : Fin 1) :
    meanOf e (ix3 a s z) = Norm.mean (fun k => e (ix3 a s k)) := by
  pointwise [meanOf]
  unfold Norm.mean
  rw [ofBits_64]

/-- The centred features at an element. -/
theorem centred_apply (e : FVec Ideal S4096x200x64 .f32) (a : Fin 4096) (s : Fin 200) (f : Fin 64) :
    centred e (ix3 a s f) = e (ix3 a s f) - Norm.mean (fun k => e (ix3 a s k)) := by
  pointwise [centred]
  rw [meanOf_apply]

/-- The layer normalisation at an element. -/
theorem layerNorm_apply (e : FVec Ideal S4096x200x64 .f32) (γ β : FVec Ideal S64 .f32) (a : Fin 4096) (s : Fin 200) (f : Fin 64) :
    layerNorm e γ β (ix3 a s f)
      = Norm.plain (Ideal.ofBits FTy.f32 0x3727C5AC#32) (fun k => e (ix3 a s k)) (fun k => γ (ix1 k)) (fun k => β (ix1 k)) f := by
  pointwise [layerNorm]
  have hsq : (fun k => mulf (centred e) (centred e) (ix3 a s k))
      = fun k => (e (ix3 a s k) - Norm.mean (fun k => e (ix3 a s k))) * (e (ix3 a s k) - Norm.mean (fun k => e (ix3 a s k))) :=
    funext fun k => (show _ = centred e (ix3 a s k) * centred e (ix3 a s k) from rfl).trans (by rw [centred_apply])
  rw [meanOf_apply, centred_apply, hsq]
  rfl

/-! ## The lookups -/

/-- A choice by a condition that holds everywhere. -/
theorem select_of (c : IVec S4096x200 1) (hc : ∀ j, c j = 1#1) (u v : FVec Ideal S4096x200x64 .f32) (i : S4096x200x64.Idx) :
    select (broadcastInDim S4096x200x64 ![0, 1] bcast_S4096x200_S4096x200x64_0_1 c) u v i = u i := by
  have e : broadcastInDim S4096x200x64 ![0, 1] bcast_S4096x200_S4096x200x64_0_1 c i = 1#1 := hc _
  show Scalar.select (broadcastInDim S4096x200x64 ![0, 1] bcast_S4096x200_S4096x200x64_0_1 c i) (u i) (v i) = u i
  rw [e]
  rfl

/-- An id in range read as an integer. -/
theorem toInt_of_small (x : BitVec 32) (h : x.toNat < 21) : x.toInt = (x.toNat : Int) := by
  rw [BitVec.toInt_eq_toNat_cond, if_pos (by omega)]

/-- Ids in range are not moved. -/
theorem wrap21_eq (x : Vec Ideal S4096x200 .i32) (h : ∀ i, (x i).toNat < 21) : wrap21 x = x := by
  funext i
  exact Routing.wrap_of_lt (x i) (IntOp.addi (x i) 21#32) (by have := h i; omega)

/-- The gather of rows at an element: the row the id names. -/
theorem gather21_apply (t : FVec Ideal S21x64 .f32) (x : Vec Ideal S4096x200 .i32) (a : Fin 4096) (s : Fin 200) (f : Fin 64)
    (h : (x (ix2 a s)).toNat < 21) :
    Host.gather gather_S21x64_S4096x200x1_S4096x200x64_2_0_n_n_0_2_164 t (broadcastInDim S4096x200x1 ![0, 1] bcast_S4096x200_S4096x200x1_0_1 x) (ix3 a s f)
      = t (ix2 ⟨(x (ix2 a s)).toNat, h⟩ f) := by
  unfold Host.gather
  refine congrArg t (funext fun q => Fin.ext ?_)
  match q with
  | ⟨0, _⟩ =>
    have e : broadcastInDim S4096x200x1 ![0, 1] bcast_S4096x200_S4096x200x1_0_1 x (ix3 a s 0) = x (ix2 a s) := by pointwise []
    show min (broadcastInDim S4096x200x1 ![0, 1] bcast_S4096x200_S4096x200x1_0_1 x (gather_S21x64_S4096x200x1_S4096x200x64_2_0_n_n_0_2_164.siIdx (ix3 a s f) ⟨0, _⟩)).toInt.toNat 20 + 0 + 0
      = (x (ix2 a s)).toNat
    have hi : gather_S21x64_S4096x200x1_S4096x200x64_2_0_n_n_0_2_164.siIdx (ix3 a s f) ⟨0, Nat.zero_lt_one⟩ = ix3 a s 0 := by
      funext b
      match b with
      | ⟨0, _⟩ => rfl
      | ⟨1, _⟩ => rfl
      | ⟨2, _⟩ => rfl
    rw [hi, e, toInt_of_small _ (by omega)]
    omega
  | ⟨1, _⟩ => exact Nat.zero_add f.val

/-- THE LOOKUP AT AN ELEMENT, every id in range: the row the id names. -/
theorem take21_apply (t : FVec Ideal S21x64 .f32) (x : Vec Ideal S4096x200 .i32) (h : ∀ i, (x i).toNat < 21) (a : Fin 4096) (s : Fin 200) (f : Fin 64) :
    take21 t x (ix3 a s f) = t (ix2 ⟨(x (ix2 a s)).toNat, h _⟩ f) := by
  unfold take21
  rw [wrap21_eq x h]
  have hr : ∀ j, Host.reduce IntOp.andi (andi
        (cmpi .sge (broadcastInDim S4096x200x1 ![0, 1] bcast_S4096x200_S4096x200x1_0_1 x) (broadcastInDim S4096x200x1 ![] bcast_S_S4096x200x1 (constantI S_ 32 0#32)))
        (cmpi .sle (broadcastInDim S4096x200x1 ![0, 1] bcast_S4096x200_S4096x200x1_0_1 x)
          (broadcastInDim S4096x200x1 ![0, 1, 2] bcast_S1x1x1_S4096x200x1_0_1_2 (broadcastInDim S1x1x1 ![2] bcast_S1_S1x1x1_2 (constantI S1 32 20#32)))))
        (constantI S_ 1 1#1) reducesTo_S4096x200x1_S4096x200_d2 h_S_ j = 1#1 := by
    intro j
    refine Host.reduce_andi_one _ _ _ _ _ rfl (fun i => ?_)
    idx_vars i
    have hi := h (ix2 i0 i1)
    pointwise []
    rw [IntOp.andi_eq_one, IntOp.cmpi_sge, IntOp.cmpi_sle, toInt_of_small (x (ix2 i0 i1)) (by omega)]
    refine ⟨Int.natCast_nonneg _, ?_⟩
    show ((x (ix2 i0 i1)).toNat : Int) ≤ 20
    omega
  refine Eq.trans ?_ (gather21_apply t x a s f (h _))
  exact select_of _ hr _ _ _

/-- Ids in range are not moved. -/
theorem wrap4_eq (x : Vec Ideal S4096x200 .i32) (h : ∀ i, (x i).toNat < 4) : wrap4 x = x := by
  funext i
  exact Routing.wrap_of_lt (x i) (IntOp.addi (x i) 4#32) (by have := h i; omega)

/-- The gather of rows at an element: the row the id names. -/
theorem gather4_apply (t : FVec Ideal S4x64 .f32) (x : Vec Ideal S4096x200 .i32) (a : Fin 4096) (s : Fin 200) (f : Fin 64)
    (h : (x (ix2 a s)).toNat < 4) :
    Host.gather gather_S4x64_S4096x200x1_S4096x200x64_2_0_n_n_0_2_164 t (broadcastInDim S4096x200x1 ![0, 1] bcast_S4096x200_S4096x200x1_0_1 x) (ix3 a s f)
      = t (ix2 ⟨(x (ix2 a s)).toNat, h⟩ f) := by
  unfold Host.gather
  refine congrArg t (funext fun q => Fin.ext ?_)
  match q with
  | ⟨0, _⟩ =>
    have e : broadcastInDim S4096x200x1 ![0, 1] bcast_S4096x200_S4096x200x1_0_1 x (ix3 a s 0) = x (ix2 a s) := by pointwise []
    show min (broadcastInDim S4096x200x1 ![0, 1] bcast_S4096x200_S4096x200x1_0_1 x (gather_S4x64_S4096x200x1_S4096x200x64_2_0_n_n_0_2_164.siIdx (ix3 a s f) ⟨0, _⟩)).toInt.toNat 3 + 0 + 0
      = (x (ix2 a s)).toNat
    have hi : gather_S4x64_S4096x200x1_S4096x200x64_2_0_n_n_0_2_164.siIdx (ix3 a s f) ⟨0, Nat.zero_lt_one⟩ = ix3 a s 0 := by
      funext b
      match b with
      | ⟨0, _⟩ => rfl
      | ⟨1, _⟩ => rfl
      | ⟨2, _⟩ => rfl
    rw [hi, e, toInt_of_small _ (by omega)]
    omega
  | ⟨1, _⟩ => exact Nat.zero_add f.val

/-- THE LOOKUP AT AN ELEMENT, every id in range: the row the id names. -/
theorem take4_apply (t : FVec Ideal S4x64 .f32) (x : Vec Ideal S4096x200 .i32) (h : ∀ i, (x i).toNat < 4) (a : Fin 4096) (s : Fin 200) (f : Fin 64) :
    take4 t x (ix3 a s f) = t (ix2 ⟨(x (ix2 a s)).toNat, h _⟩ f) := by
  unfold take4
  rw [wrap4_eq x h]
  have hr : ∀ j, Host.reduce IntOp.andi (andi
        (cmpi .sge (broadcastInDim S4096x200x1 ![0, 1] bcast_S4096x200_S4096x200x1_0_1 x) (broadcastInDim S4096x200x1 ![] bcast_S_S4096x200x1 (constantI S_ 32 0#32)))
        (cmpi .sle (broadcastInDim S4096x200x1 ![0, 1] bcast_S4096x200_S4096x200x1_0_1 x)
          (broadcastInDim S4096x200x1 ![0, 1, 2] bcast_S1x1x1_S4096x200x1_0_1_2 (broadcastInDim S1x1x1 ![2] bcast_S1_S1x1x1_2 (constantI S1 32 3#32)))))
        (constantI S_ 1 1#1) reducesTo_S4096x200x1_S4096x200_d2 h_S_ j = 1#1 := by
    intro j
    refine Host.reduce_andi_one _ _ _ _ _ rfl (fun i => ?_)
    idx_vars i
    have hi := h (ix2 i0 i1)
    pointwise []
    rw [IntOp.andi_eq_one, IntOp.cmpi_sge, IntOp.cmpi_sle, toInt_of_small (x (ix2 i0 i1)) (by omega)]
    refine ⟨Int.natCast_nonneg _, ?_⟩
    show ((x (ix2 i0 i1)).toNat : Int) ≤ 3
    omega
  refine Eq.trans ?_ (gather4_apply t x a s f (h _))
  exact select_of _ hr _ _ _

/-! ## The embedding and the result -/

/-- The embedding at an element, every id in range. -/
theorem embed_apply (d : FVec Ideal S4096x200x1 .f32) (x y : Vec Ideal S4096x200 .i32) (W : FVec Ideal S1x64 .f32) (b : FVec Ideal S64 .f32)
    (mt : FVec Ideal S21x64 .f32) (st : FVec Ideal S4x64 .f32) (hx : ∀ i, (x i).toNat < 21) (hy : ∀ i, (y i).toNat < 4)
    (a : Fin 4096) (s : Fin 200) (f : Fin 64) :
    embed d x y W b mt st (ix3 a s f)
      = Norm.emb (d (ix3 a s 0)) (fun k => W (ix2 0 k)) (fun k => b (ix1 k)) (fun k => mt (ix2 ⟨_, hx (ix2 a s)⟩ k)) (fun k => st (ix2 ⟨_, hy (ix2 a s)⟩ k)) f := by
  pointwise [embed]
  rw [take21_apply mt x hx, take4_apply st y hy]
  rw [Fin.sum_univ_one]
  rfl

/-- THE REFERENCE'S RESULT AT AN ELEMENT, every id in range: the layer normalisation of that token's embedding. -/
theorem result_apply (m : (ℓ : Loc nD τ sig) → Buf (Elt Ideal) ℓ) (c : Dev nD)
    (hx : ∀ i : S4096x200.Idx, ((m ((c : Thread nD τ).loc main_arg1) : S4096x200.Idx → BitVec 32) i).toNat < 21)
    (hy : ∀ i : S4096x200.Idx, ((m ((c : Thread nD τ).loc main_arg2) : S4096x200.Idx → BitVec 32) i).toNat < 4)
    (a : Fin 4096) (s : Fin 200) (f : Fin 64) :
    (Value.res_out0 m c : S4096x200x64.Idx → EReal) (ix3 a s f)
      = Norm.plain (Ideal.ofBits FTy.f32 0x3727C5AC#32)
          (Norm.emb ((m ((c : Thread nD τ).loc main_arg0) : S4096x200x1.Idx → EReal) (ix3 a s 0))
            (fun k => (m ((c : Thread nD τ).loc main_arg3) : S1x64.Idx → EReal) (ix2 0 k))
            (fun k => (m ((c : Thread nD τ).loc main_arg4) : S64.Idx → EReal) (ix1 k))
            (fun k => (m ((c : Thread nD τ).loc main_arg5) : S21x64.Idx → EReal) (ix2 ⟨_, hx (ix2 a s)⟩ k))
            (fun k => (m ((c : Thread nD τ).loc main_arg6) : S4x64.Idx → EReal) (ix2 ⟨_, hy (ix2 a s)⟩ k)))
          (fun k => (m ((c : Thread nD τ).loc main_arg7) : S64.Idx → EReal) (ix1 k))
          (fun k => (m ((c : Thread nD τ).loc main_arg8) : S64.Idx → EReal) (ix1 k)) f := by
  rw [result_eq]
  refine (layerNorm_apply _ _ _ a s f).trans ?_
  exact congrArg (fun e => Norm.plain (Ideal.ofBits FTy.f32 0x3727C5AC#32) e
      (fun k => (m ((c : Thread nD τ).loc main_arg7) : S64.Idx → EReal) (ix1 k)) (fun k => (m ((c : Thread nD τ).loc main_arg8) : S64.Idx → EReal) (ix1 k)) f)
    (funext fun k => embed_apply _ _ _ _ _ _ _ hx hy a s k)

/-- The same, the nine arguments given by name. -/
theorem result_at (m : (ℓ : Loc nD τ sig) → Buf (Elt Ideal) ℓ) (c : Dev nD)
    (d : FVec Ideal S4096x200x1 .f32)
    (x : Vec Ideal S4096x200 .i32)
    (y : Vec Ideal S4096x200 .i32)
    (W : FVec Ideal S1x64 .f32)
    (b : FVec Ideal S64 .f32)
    (mt : FVec Ideal S21x64 .f32)
    (st : FVec Ideal S4x64 .f32)
    (γ : FVec Ideal S64 .f32)
    (β : FVec Ideal S64 .f32)
    (h0 : m ((c : Thread nD τ).loc main_arg0) = d)
    (h1 : m ((c : Thread nD τ).loc main_arg1) = x)
    (h2 : m ((c : Thread nD τ).loc main_arg2) = y)
    (h3 : m ((c : Thread nD τ).loc main_arg3) = W)
    (h4 : m ((c : Thread nD τ).loc main_arg4) = b)
    (h5 : m ((c : Thread nD τ).loc main_arg5) = mt)
    (h6 : m ((c : Thread nD τ).loc main_arg6) = st)
    (h7 : m ((c : Thread nD τ).loc main_arg7) = γ)
    (h8 : m ((c : Thread nD τ).loc main_arg8) = β)
    (hx : ∀ i, (x i).toNat < 21) (hy : ∀ i, (y i).toNat < 4) (a : Fin 4096) (s : Fin 200) (f : Fin 64) :
    (Value.res_out0 m c : S4096x200x64.Idx → EReal) (ix3 a s f)
      = Norm.plain (Ideal.ofBits FTy.f32 0x3727C5AC#32)
          (Norm.emb (d (ix3 a s 0)) (fun k => W (ix2 0 k)) (fun k => b (ix1 k))
            (fun k => mt (ix2 ⟨_, hx (ix2 a s)⟩ k)) (fun k => st (ix2 ⟨_, hy (ix2 a s)⟩ k)))
          (fun k => γ (ix1 k)) (fun k => β (ix1 k)) f := by
  subst h0 h1 h2 h3 h4 h5 h6 h7 h8
  exact result_apply m c hx hy a s f

end Cert.ReferenceIdeal.Row

end
-- ==== Proof.Pre.lean ====
/-
  THE PRECONDITION READ. Where `in_range` holds: every machine id is below 21 and every status id below 4, every duration is
  a real number, and every scale is a real number other than zero.
-/
module

public import proofs.«01_k».proof.Defs
public import proofs.«01_k».proof.Proof.Gen.Pre_in_range
public import proofs.«01_k».proof.Proof.Norm
public import Idealize.ShloMosaic.Lib.Pointwise
public import Idealize.ShloMosaic.Lib.ReduceAll
public import Idealize.ShloMosaic.Lib.Affine
public import Idealize.ShloMosaic.Lib.IdealHost

@[expose] public section

noncomputable section

namespace Cert.Pre_in_range

open Idealize.ShloMosaic

variable (d : FVec Ideal S4096x200x1 .f32) (x y : IVec S4096x200 32) (W : FVec Ideal S1x64 .f32) (b : FVec Ideal S64 .f32)
  (mt : FVec Ideal S21x64 .f32) (st : FVec Ideal S4x64 .f32) (γ β : FVec Ideal S64 .f32)

/-- A word whose signed reading lies between zero and `n`. -/
theorem toNat_of_between (w : BitVec 32) (n : Nat) (h0 : 0 ≤ w.toInt) (h1 : w.toInt ≤ (n : Int)) : w.toNat < n + 1 := by
  rw [BitVec.toInt_eq_toNat_cond] at h0 h1
  split at h0 <;> omega

/-- An extended real of absolute value below the infinity pattern is a real number. -/
theorem real_of_abs_lt (r : EReal) (h : FloatOps.cmpf (F := Ideal) (φ := .f32) .olt (FloatOps.hostAbsf (F := Ideal) (φ := .f32) r) (Ideal.ofBits .f32 0x7F800000#32) = 1#1) :
    Norm.IsReal r := by
  have e : Ideal.ofBits .f32 0x7F800000#32 = (⊤ : EReal) := by simp [Ideal.ofBits, Ideal.ieee]
  rw [e] at h
  have h' : max r (-r) < (⊤ : EReal) := by
    by_contra hn
    have : Ideal.cmp .olt (max r (-r)) (⊤ : EReal) = 0#1 := by simp [Ideal.cmp, hn]
    exact absurd (this.symm.trans h) (by decide)
  constructor
  · rintro rfl
    simp at h'
  · rintro rfl
    simp at h'

/-- An extended real that compares unequal to the zero pattern is not zero. -/
theorem ne_zero_of_une (r : EReal) (h : FloatOps.cmpf (F := Ideal) (φ := .f32) .une r (Ideal.ofBits .f32 0x00000000#32) = 1#1) : r ≠ 0 := by
  have e : Ideal.ofBits .f32 0x00000000#32 = (0 : EReal) := by simp [Ideal.ofBits, Ideal.ieee]
  rw [e] at h
  rintro rfl
  have : Ideal.cmp .une (0 : EReal) 0 = 0#1 := by simp [Ideal.cmp]
  exact absurd (this.symm.trans h) (by decide)

set_option maxRecDepth 16384
set_option maxHeartbeats 4000000

/-- The four conjuncts of the precondition, each at every index. -/
theorem read (h : fn (F := Ideal) d x y W b mt st γ β = fun _ => 1#1) :
    (∀ i, (x i).toNat < 21) ∧ (∀ i, (y i).toNat < 4) ∧ (∀ i, Norm.IsReal (d i)) ∧ (∀ i, Norm.IsReal (γ i) ∧ γ i ≠ 0) := by
  have h0 := congrFun h (fun a => a.elim0)
  dsimp only [fn, fn_part1] at h0
  obtain ⟨h12, hγ⟩ := IntOp.andi_eq_one.1 h0
  obtain ⟨h11, hd⟩ := IntOp.andi_eq_one.1 h12
  obtain ⟨hx, hy⟩ := IntOp.andi_eq_one.1 h11
  refine ⟨fun i => ?_, fun i => ?_, fun i => ?_, fun i => ?_⟩
  · obtain ⟨e0, e1⟩ := IntOp.andi_eq_one.1 (Host.reduce_andi_all _ _ _ _ _ hx i)
    exact toNat_of_between _ 20 (IntOp.cmpi_sge.1 e0) (IntOp.cmpi_sle.1 e1)
  · obtain ⟨e0, e1⟩ := IntOp.andi_eq_one.1 (Host.reduce_andi_all _ _ _ _ _ hy i)
    exact toNat_of_between _ 3 (IntOp.cmpi_sge.1 e0) (IntOp.cmpi_sle.1 e1)
  · exact real_of_abs_lt _ (Host.reduce_andi_all _ _ _ _ _ hd i)
  · obtain ⟨e0, e1⟩ := IntOp.andi_eq_one.1 (Host.reduce_andi_all _ _ _ _ _ hγ i)
    refine ⟨real_of_abs_lt _ e0, ?_⟩
    exact ne_zero_of_une _ e1

end Cert.Pre_in_range

end
-- ==== Proof.lean ====
/-
  THE PROOF OF `Cert.Claim`. The frames: every run of the kernel, of the idealized kernel and of the reference ends, with every
  argument unchanged and every semaphore at zero. The value: under the precondition the idealized kernel and the reference leave
  the same array. `Proof/Array.lean` reads the kernel's array at an element, `Proof/Ref.lean` the reference's, and
  `Proof/Norm.lean` proves the two expressions equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Norm
public import proofs.«01_k».proof.Proof.Body
public import proofs.«01_k».proof.Proof.Entry
public import proofs.«01_k».proof.Proof.Table
public import proofs.«01_k».proof.Proof.Array
public import proofs.«01_k».proof.Proof.Ref
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 16384
set_option maxHeartbeats 4000000

/-- The kernel's formula for a token and the reference's are equal when the duration is a real number and every scale is a real
    number other than zero. -/
theorem folded_eq (d : EReal) (W b mt st γ β : Fin 64 → EReal) (hd : Norm.IsReal d) (hγ : ∀ k, Norm.IsReal (γ k) ∧ γ k ≠ 0) (j : Fin 64) :
    Norm.folded KernelIdeal.Body.eps (Norm.comb γ d W b mt st) γ β j = Norm.plain KernelIdeal.Body.eps (Norm.emb d W b mt st) γ β j := by
  obtain ⟨ε, hε, e⟩ := KernelIdeal.Entry.eps_pos
  have eγ : γ = fun k => (((γ k).toReal : ℝ) : EReal) := funext fun k => (hγ k).1.eq_coe
  have hg : ∀ k, (γ k).toReal ≠ 0 := fun k h0 => (hγ k).2 (by rw [(hγ k).1.eq_coe, h0]; rfl)
  have key := Norm.folded_eq_plain hg hε d.toReal W b mt st β j
  rw [← eγ, ← hd.eq_coe, ← e] at key
  exact key

/-- THE TWO ARRAYS ARE EQUAL: on arguments that agree and satisfy the precondition, the reference's result is the kernel's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Pre_KernelIdeal_in_range m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_out0 m' c : Cert.KernelIdeal.S4096x200x64.Idx → EReal) = Cert.KernelIdeal.Array.result m c := by
  obtain ⟨hx, hy, hd, hγ⟩ := Cert.Pre_in_range.read _ _ _ _ _ _ _ _ _ (hpre c)
  funext i
  idx_vars i
  refine (Cert.ReferenceIdeal.Row.result_at m' c _ _ _ _ _ _ _ _ _ h0 h1 h2 h3 h4 h5 h6 h7 h8 hx hy i0 i1 i2).trans ?_
  refine Eq.trans ?_ (Cert.KernelIdeal.Array.result_apply m c i0 i1 i2 (hx (ix2 i0 i1)) (hy (ix2 i0 i1))).symm
  exact (folded_eq _ _ _ _ _ _ _ (hd _) (fun k => hγ (ix1 k)) i2).symm

/-- The reference's run ends with its arguments unchanged and every semaphore at zero. -/
theorem frame_ReferenceIdeal : quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealized kernel computes the reference's value. -/
theorem value : algebraic_KernelIdeal_ReferenceIdeal_pre_in_range := by
  intro m ρ m' ρ' hpre hagree
  refine ⟨fun c => Cert.KernelIdeal.Array.result m c, Cert.KernelIdeal.Array.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  exact arrays_eq m m' c hpre h0 h1 h2 h3 h4 h5 h6 h7 h8

/-- Every claim of the certificate. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  trivial,
  value⟩

end Cert.Proof

end
